-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 128]⟩ ⟨2, ![4096, 128]⟩ 0 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 128]⟩ ⟨2, ![4096, 128]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x128 : Shape := ⟨2, ![256, 128]⟩
abbrev S14x256x128 : Shape := ⟨3, ![14, 256, 128]⟩
abbrev S14 : Shape := ⟨1, ![14]⟩
abbrev S8x2x16x128 : Shape := ⟨4, ![8, 2, 16, 128]⟩
abbrev S8x1x16x128 : Shape := ⟨4, ![8, 1, 16, 128]⟩
abbrev S8x16x128 : Shape := ⟨3, ![8, 16, 128]⟩
abbrev S4x2x32x128 : Shape := ⟨4, ![4, 2, 32, 128]⟩
abbrev S4x1x32x128 : Shape := ⟨4, ![4, 1, 32, 128]⟩
abbrev S4x32x128 : Shape := ⟨3, ![4, 32, 128]⟩
abbrev S2x2x64x128 : Shape := ⟨4, ![2, 2, 64, 128]⟩
abbrev S2x1x64x128 : Shape := ⟨4, ![2, 1, 64, 128]⟩
abbrev S2x64x128 : Shape := ⟨3, ![2, 64, 128]⟩
abbrev S1x2x128x128 : Shape := ⟨4, ![1, 2, 128, 128]⟩
abbrev S1x1x128x128 : Shape := ⟨4, ![1, 1, 128, 128]⟩
abbrev S1x128x128 : Shape := ⟨3, ![1, 128, 128]⟩
abbrev S_ : Shape := ⟨0, ![]⟩
abbrev S1 : Shape := ⟨1, ![1]⟩
abbrev S1x256x128 : Shape := ⟨3, ![1, 256, 128]⟩

abbrev nBuf : Space → Nat
  | .hbm => 2
  | .vmem => 4
  | .smem => 0
  | _ => 0

abbrev bufTy : (tb : Table) → Fin (tcTables nBuf tb) → BufTy
  | .hbm, ⟨0, _⟩ => ⟨S256x128, .bf16⟩
  | .hbm, ⟨1, _⟩ => ⟨S256x128, .f32⟩
  | .local _ .vmem, ⟨0, _⟩ => ⟨S256x128, .bf16⟩
  | .local _ .vmem, ⟨1, _⟩ => ⟨S256x128, .f32⟩
  | .local _ .vmem, ⟨2, _⟩ => ⟨S256x128, .bf16⟩
  | .local _ .vmem, ⟨3, _⟩ => ⟨S14x256x128, .bf16⟩
  | _, _ => ⟨S256x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  (ofTc nBuf bufTy 1 30 bufScoped semScoped dmaSemScoped tileCredit tileCredit_eq_zero tileCredit_pos).withBarriers [(7, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier7 : Sem sig := 0

abbrev nD : Nat := 16
abbrev τ : Topo := Topo.v7x

variable {F : FTy → Type} [FloatOps F]

abbrev grid0 : Pipeline.Grid := .none

def k0_dev1 (d0 : Dev nD) : Nat :=
  let c0_i32_206 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_203 : BitVec 32 := 1#32
  let v724 : BitVec 32 := Scalar.xori v2 c1_i32_203
  let c1_i32_205 : BitVec 32 := 1#32
  let v725 : BitVec 32 := Scalar.muli v724 c1_i32_205
  let v726 : BitVec 32 := Scalar.addi c0_i32_206 v725
  v726.toNat
def k0_dev2 (d0 : Dev nD) : Nat :=
  let c0_i32_210 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_207 : BitVec 32 := 2#32
  let v727 : BitVec 32 := Scalar.xori v2 c2_i32_207
  let c1_i32_209 : BitVec 32 := 1#32
  let v728 : BitVec 32 := Scalar.muli v727 c1_i32_209
  let v729 : BitVec 32 := Scalar.addi c0_i32_210 v728
  v729.toNat
def k0_dev3 (d0 : Dev nD) : Nat :=
  let c0_i32_213 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v730 : BitVec 32 := Scalar.xori v2 c3_i32
  let c1_i32_212 : BitVec 32 := 1#32
  let v731 : BitVec 32 := Scalar.muli v730 c1_i32_212
  let v732 : BitVec 32 := Scalar.addi c0_i32_213 v731
  v732.toNat
def k0_dev4 (d0 : Dev nD) : Nat :=
  let c0_i32_217 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_214 : BitVec 32 := 4#32
  let v733 : BitVec 32 := Scalar.xori v2 c4_i32_214
  let c1_i32_216 : BitVec 32 := 1#32
  let v734 : BitVec 32 := Scalar.muli v733 c1_i32_216
  let v735 : BitVec 32 := Scalar.addi c0_i32_217 v734
  v735.toNat
def k0_dev5 (d0 : Dev nD) : Nat :=
  let c0_i32_220 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v736 : BitVec 32 := Scalar.xori v2 c6_i32
  let c1_i32_219 : BitVec 32 := 1#32
  let v737 : BitVec 32 := Scalar.muli v736 c1_i32_219
  let v738 : BitVec 32 := Scalar.addi c0_i32_220 v737
  v738.toNat
def k0_dev6 (d0 : Dev nD) : Nat :=
  let c0_i32_224 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_221 : BitVec 32 := 8#32
  let v739 : BitVec 32 := Scalar.xori v2 c8_i32_221
  let c1_i32_223 : BitVec 32 := 1#32
  let v740 : BitVec 32 := Scalar.muli v739 c1_i32_223
  let v741 : BitVec 32 := Scalar.addi c0_i32_224 v740
  v741.toNat
def k0_dev7 (d0 : Dev nD) : Nat :=
  let c0_i32_227 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v742 : BitVec 32 := Scalar.xori v2 c12_i32
  let c1_i32_226 : BitVec 32 := 1#32
  let v743 : BitVec 32 := Scalar.muli v742 c1_i32_226
  let v744 : BitVec 32 := Scalar.addi c0_i32_227 v743
  v744.toNat
def k0_dev8 (d0 : Dev nD) : Nat :=
  let c0_i32_233 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_228 : BitVec 32 := 1#32
  let v745 : BitVec 32 := Scalar.xori v2 c1_i32_228
  let c1_i32_232 : BitVec 32 := 1#32
  let v746 : BitVec 32 := Scalar.muli v745 c1_i32_232
  let v747 : BitVec 32 := Scalar.addi c0_i32_233 v746
  v747.toNat
def k0_dev9 (d0 : Dev nD) : Nat :=
  let c0_i32_309 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_304 : BitVec 32 := 1#32
  let v954 : BitVec 32 := Scalar.xori v2 c1_i32_304
  let c1_i32_308 : BitVec 32 := 1#32
  let v955 : BitVec 32 := Scalar.muli v954 c1_i32_308
  let v956 : BitVec 32 := Scalar.addi c0_i32_309 v955
  v956.toNat
def k0_dev10 (d0 : Dev nD) : Nat :=
  let c0_i32_317 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_312 : BitVec 32 := 2#32
  let v963 : BitVec 32 := Scalar.xori v2 c2_i32_312
  let c1_i32_316 : BitVec 32 := 1#32
  let v964 : BitVec 32 := Scalar.muli v963 c1_i32_316
  let v965 : BitVec 32 := Scalar.addi c0_i32_317 v964
  v965.toNat
def k0_dev11 (d0 : Dev nD) : Nat :=
  let c0_i32_325 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_320 : BitVec 32 := 3#32
  let v972 : BitVec 32 := Scalar.xori v2 c3_i32_320
  let c1_i32_324 : BitVec 32 := 1#32
  let v973 : BitVec 32 := Scalar.muli v972 c1_i32_324
  let v974 : BitVec 32 := Scalar.addi c0_i32_325 v973
  v974.toNat
def k0_dev12 (d0 : Dev nD) : Nat :=
  let c0_i32_441 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_436 : BitVec 32 := 2#32
  let v1233 : BitVec 32 := Scalar.xori v2 c2_i32_436
  let c1_i32_440 : BitVec 32 := 1#32
  let v1234 : BitVec 32 := Scalar.muli v1233 c1_i32_440
  let v1235 : BitVec 32 := Scalar.addi c0_i32_441 v1234
  v1235.toNat
def k0_dev13 (d0 : Dev nD) : Nat :=
  let c0_i32_448 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_444 : BitVec 32 := 4#32
  let v1242 : BitVec 32 := Scalar.xori v2 c4_i32_444
  let c1_i32_447 : BitVec 32 := 1#32
  let v1243 : BitVec 32 := Scalar.muli v1242 c1_i32_447
  let v1244 : BitVec 32 := Scalar.addi c0_i32_448 v1243
  v1244.toNat
def k0_dev14 (d0 : Dev nD) : Nat :=
  let c0_i32_456 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_451 : BitVec 32 := 6#32
  let v1251 : BitVec 32 := Scalar.xori v2 c6_i32_451
  let c1_i32_455 : BitVec 32 := 1#32
  let v1252 : BitVec 32 := Scalar.muli v1251 c1_i32_455
  let v1253 : BitVec 32 := Scalar.addi c0_i32_456 v1252
  v1253.toNat
def k0_dev15 (d0 : Dev nD) : Nat :=
  let c0_i32_528 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_523 : BitVec 32 := 1#32
  let v1344 : BitVec 32 := Scalar.xori v2 c1_i32_523
  let c1_i32_527 : BitVec 32 := 1#32
  let v1345 : BitVec 32 := Scalar.muli v1344 c1_i32_527
  let v1346 : BitVec 32 := Scalar.addi c0_i32_528 v1345
  v1346.toNat
def k0_dev16 (d0 : Dev nD) : Nat :=
  let c0_i32_604 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_599 : BitVec 32 := 4#32
  let v1553 : BitVec 32 := Scalar.xori v2 c4_i32_599
  let c1_i32_603 : BitVec 32 := 1#32
  let v1554 : BitVec 32 := Scalar.muli v1553 c1_i32_603
  let v1555 : BitVec 32 := Scalar.addi c0_i32_604 v1554
  v1555.toNat
def k0_dev17 (d0 : Dev nD) : Nat :=
  let c0_i32_611 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_607 : BitVec 32 := 8#32
  let v1562 : BitVec 32 := Scalar.xori v2 c8_i32_607
  let c1_i32_610 : BitVec 32 := 1#32
  let v1563 : BitVec 32 := Scalar.muli v1562 c1_i32_610
  let v1564 : BitVec 32 := Scalar.addi c0_i32_611 v1563
  v1564.toNat
def k0_dev18 (d0 : Dev nD) : Nat :=
  let c0_i32_618 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_614 : BitVec 32 := 12#32
  let v1571 : BitVec 32 := Scalar.xori v2 c12_i32_614
  let c1_i32_617 : BitVec 32 := 1#32
  let v1572 : BitVec 32 := Scalar.muli v1571 c1_i32_617
  let v1573 : BitVec 32 := Scalar.addi c0_i32_618 v1572
  v1573.toNat
def k0_dev19 (d0 : Dev nD) : Nat :=
  let c0_i32_689 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_685 : BitVec 32 := 1#32
  let v1664 : BitVec 32 := Scalar.xori v2 c1_i32_685
  let c1_i32_688 : BitVec 32 := 1#32
  let v1665 : BitVec 32 := Scalar.muli v1664 c1_i32_688
  let v1666 : BitVec 32 := Scalar.addi c0_i32_689 v1665
  v1666.toNat
def k0_dev20 (d0 : Dev nD) : Nat :=
  let c0_i32_697 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_692 : BitVec 32 := 2#32
  let v1673 : BitVec 32 := Scalar.xori v2 c2_i32_692
  let c1_i32_696 : BitVec 32 := 1#32
  let v1674 : BitVec 32 := Scalar.muli v1673 c1_i32_696
  let v1675 : BitVec 32 := Scalar.addi c0_i32_697 v1674
  v1675.toNat
def k0_dev21 (d0 : Dev nD) : Nat :=
  let c0_i32_704 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_700 : BitVec 32 := 3#32
  let v1682 : BitVec 32 := Scalar.xori v2 c3_i32_700
  let c1_i32_703 : BitVec 32 := 1#32
  let v1683 : BitVec 32 := Scalar.muli v1682 c1_i32_703
  let v1684 : BitVec 32 := Scalar.addi c0_i32_704 v1683
  v1684.toNat
abbrev stage0_0 : Fin 1 → Memref sig .tc .vmem S256x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x128 : Shape := ⟨2, ![4096, 128]⟩

abbrev nBuf : Space → Nat
  | .hbm => 3
  | .vmem => 0
  | .smem => 0
  | _ => 0

abbrev bufTy : (tb : Table) → Fin (tcTables nBuf tb) → BufTy
  | .hbm, ⟨0, _⟩ => ⟨S4096x128, .bf16⟩
  | .hbm, ⟨1, _⟩ => ⟨S4096x128, .f32⟩
  | .hbm, ⟨2, _⟩ => ⟨S4096x128, .f32⟩
  | _, _ => ⟨S4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩

abbrev nD : Nat := 1
abbrev τ : Topo := Topo.v7x

variable {F : FTy → Type} [FloatOps F]
-- ==== Proof.Vals.lean ====
/-
# The blocks a device holds, as functions of the whole mesh's input

`seg0`, `mergeN`, `localN` are the kernel's own payloads between two stores of the working block, in the order the
skeleton prints them; `blk0` … `blk6` are the blocks every device holds when it sends, and at the end.
-/
module

public import proofs.«01_k».proof.Proof.Gen.KernelIdeal
public import proofs.«01_k».proof.Proof.Gen.KernelIdeal.Skeleton

@[expose] public section

noncomputable section

namespace Cert.Sort

open Cert.KernelIdeal Cert.KernelIdeal.Gen
open Idealize.ShloMosaic Idealize.SL.Sem

variable {F : FTy → Type} [FloatOps F]

/-- The number of the first row of device `c`'s block, as the word the kernel computes. -/
abbrev rowWord (c : Dev nD) : BitVec 32 := Scalar.muli (Scalar.remsi (Scalar.divsi (Dev.word c) 1#32) 16#32) 256#32

/-- What a device sends first: its own block after the local sorting stages. -/
def seg0 (c : Dev nD) (v4 : FVec F S256x128 .bf16) : FVec F S256x128 .bf16 :=
  let v3 := rowWord c
  let v24 := k0_pay3 c v4
  let v31 := k0_pay5 c
  let v37 := k0_pay6 c
  let v38 := k0_pay7 c v4
  let v39 := k0_pay8 c v4
  let v81 := k0_pay9 v3 v24 v31 v37 v38 v39
  let v84 := k0_pay10 v3
  let c2_i32_21 := 2#32
  let v119 := k0_pay11 v3 v81 v84 c2_i32_21
  let v126 := k0_pay13 v3
  let v128 := k0_pay14 v3
  let v157 := k0_pay15 v3 v119 v126 v128
  let v164 := k0_pay17 v3
  let v170 := k0_pay18 v3
  let v171 := k0_pay19 v3 v119 v126 v128
  let v217 := k0_pay20 v3 v157 v164 v170 v171
  let v220 := k0_pay21 v3
  let v255 := k0_pay22 v3 v217 v220
  let v258 := k0_pay23 v3
  let v262 := k0_pay24 v3
  let v263 := k0_pay25
  let v299 := k0_pay29 v3 v255 v258 v262 v263
  let v300 := k0_pay30 v3 v255 v258 v262 v263
  let v309 := k0_pay31 v3
  let v356 := k0_pay32 v3 v299 v300 v309
  let v359 := k0_pay33 v3
  let v394 := k0_pay34 v3 v356 v359
  let v397 := k0_pay35 v3
  let v401 := k0_pay36 v3
  let v402 := k0_pay37
  let v441 := k0_pay41 v3 v394 v397 v401 v402
  let v442 := k0_pay42 v3 v394 v397 v401 v402
  let v451 := k0_pay43 v3
  let v452 := k0_pay44 v3 v394 v397 v401 v402
  let v498 := k0_pay45 v3 v441 v442 v451 v452
  let v501 := k0_pay46 v3
  let c4_i32_140 := 4#32
  let v536 := k0_pay47 v3 v498 v501 c4_i32_140
  let v543 := k0_pay49 v3
  let v545 := k0_pay50 v3
  let v594 := k0_pay57 v3 v536 v543 v545
  let v595 := k0_pay58 v3 v536 v543 v545
  let v643 := k0_pay59 v3 v594 v595
  let v646 := k0_pay60 v3
  let v648 := k0_pay61 v3
  let v681 := k0_pay62 v3 v643 v646 v648
  let v688 := k0_pay64 v3
  let v690 := k0_pay65 v3
  let v691 := k0_pay66
  k0_pay67 v3 v681 v688 v690 v691

/-- The first exchange merge: own block `v767` and the received slot `v768`. -/
def merge1 (c : Dev nD) (v767 : FVec F S256x128 .bf16) (v768 : Vec F S1x256x128 .bf16) : FVec F S256x128 .bf16 :=
  let v3 := rowWord c
  let v782 := k0_pay68 v3 v767 v768
  k0_pay69 v782

/-- The local merge stages after the first exchange. -/
def local1 (c : Dev nD) (v786 : FVec F S256x128 .bf16) : FVec F S256x128 .bf16 :=
  let v3 := rowWord c
  let v833 := k0_pay71 v3 v786
  let v835 := k0_pay72 v3 v786
  let v874 := k0_pay73 v3 v833 v835
  let v881 := k0_pay75 v3
  let v885 := k0_pay76 v3
  let v912 := k0_pay77 v3 v874 v881 v885
  let v925 := k0_pay80 v3
  let v928 := k0_pay81 v3 v874 v881 v885
  k0_pay82 v3 v912 v925 v928

/-- The second exchange merge, of the own block and three received slots. -/
def merge2 (c : Dev nD) (v1014 : FVec F S256x128 .bf16) (v1015 v1017 v1019 : Vec F S1x256x128 .bf16) : FVec F S256x128 .bf16 :=
  let v3 := rowWord c
  let v1013 := k0_pay83 v3
  let v1016 := k0_pay84 v1015
  let v1018 := k0_pay85 v1017
  let v1033 := k0_pay86 v1013 v1014 v1018
  let v1048 := k0_pay87 v1013 v1016 v1019
  let v1058 := k0_pay88 v1013
  let v1059 := k0_pay89 v1013 v1014 v1016 v1018 v1019
  k0_pay90 v1033 v1048 v1058 v1059

/-- The local merge stages after the second exchange. -/
def local2 (c : Dev nD) (v1065 : FVec F S256x128 .bf16) : FVec F S256x128 .bf16 :=
  let v3 := rowWord c
  let v1108 := k0_pay91 v3 v1065
  let v1153 := k0_pay92 v3 v1108
  let v1156 := k0_pay93 v3
  let v1160 := k0_pay94 v3
  let v1191 := k0_pay95 v3 v1153 v1156 v1160
  let v1198 := k0_pay97 v3
  let v1203 := k0_pay98 v3
  let cst_424 := constantI S256x128 1 1#1
  k0_pay99 v3 v1191 v1198 v1203 cst_424

/-- The third exchange merge, of the own block and three received slots. -/
def merge3 (c : Dev nD) (v1293 : FVec F S256x128 .bf16) (v1294 v1296 v1298 : Vec F S1x256x128 .bf16) : FVec F S256x128 .bf16 :=
  let v3 := rowWord c
  let v1292 := k0_pay100 v3
  let v1312 := k0_pay101 v1292 v1293 v1296
  let v1327 := k0_pay102 v1292 v1294 v1298
  let v1331 := k0_pay103 v1292
  let v1333 := k0_pay104 v1292
  let c0_i32_519 := 0#32
  k0_pay105 v1312 v1327 v1331 v1333 c0_i32_519

/-- The fourth exchange merge, of the own block and one received slot. -/
def merge4 (c : Dev nD) (v1366 : FVec F S256x128 .bf16) (v1367 : Vec F S1x256x128 .bf16) : FVec F S256x128 .bf16 :=
  let v3 := rowWord c
  let v1365 := k0_pay106 v3
  k0_pay107 v1365 v1366 v1367

/-- The local merge stages after the fourth exchange. -/
def local4 (c : Dev nD) (v1385 : FVec F S256x128 .bf16) : FVec F S256x128 .bf16 :=
  let v3 := rowWord c
  let v1407 := k0_pay108 v3 v1385
  let v1457 := k0_pay112 v3 v1407
  let v1458 := k0_pay113 v3 v1407
  let v1459 := iota .tc S8x16x128 32 [0] iota_S8x16x128_d0_w32
  let v1460 := k0_pay114
  let v1492 := k0_pay115 v3 v1457 v1458 v1459 v1460
  let v1499 := k0_pay117 v3
  let v1505 := k0_pay118 v3
  let c252_i32_581 := 252#32
  let v1549 := k0_pay119 v3 v1492 v1499 v1505 c252_i32_581
  k0_pay120 v1549

/-- The fifth exchange merge, of the own block and three received slots. -/
def merge5 (c : Dev nD) (v1613 : FVec F S256x128 .bf16) (v1614 v1616 v1618 : Vec F S1x256x128 .bf16) : FVec F S256x128 .bf16 :=
  let v3 := rowWord c
  let v1612 := k0_pay121 v3
  let v1615 := k0_pay122 v1614
  let v1619 := k0_pay123 v1618
  let v1632 := k0_pay124 v3 v1613 v1616
  let v1634 := k0_pay125 v3
  let v1636 := k0_pay126 v3
  let c0_i32_674 := 0#32
  k0_pay127 v1612 v1615 v1619 v1632 v1634 v1636 c0_i32_674

/-- The sixth exchange merge, of the own block and three received slots. -/
def merge6 (c : Dev nD) (v1724 : FVec F S256x128 .bf16) (v1725 v1727 v1729 : Vec F S1x256x128 .bf16) : FVec F S256x128 .bf16 :=
  let v3 := rowWord c
  let v1723 := k0_pay128 v3
  let v1726 := k0_pay129 v1725
  let v1743 := k0_pay130 v1723 v1724 v1727
  let v1758 := k0_pay131 v1723 v1726 v1729
  let v1767 := k0_pay132 v1723
  k0_pay133 v1743 v1758 v1767

/-- The local merge stages after the sixth exchange. -/
def local6 (c : Dev nD) (v1775 : FVec F S256x128 .bf16) : FVec F S256x128 .bf16 :=
  let v3 := rowWord c
  let v1814 := k0_pay140 v3 v1775
  let v1815 := k0_pay141 v3 v1775
  let v1863 := k0_pay142 v3 v1814 v1815
  let v1866 := k0_pay143 v3
  let v1868 := k0_pay144 v3
  let v1901 := k0_pay145 v3 v1863 v1866 v1868
  let v1908 := k0_pay147 v3
  let v1910 := k0_pay148 v3
  let v1911 := k0_pay149
  let v1920 := k0_pay150 v1901 v1908 v1910 v1911
  let v1921 := iota .tc S256x128 32 [0] iota_S256x128_d0_w32
  k0_pay1 v3 v1920 v1921

/-! ## The mesh -/

/-- The seven distances (exclusive or) at which a device has a partner. -/
def delta : Fin 7 → ℕ := ![1, 2, 3, 4, 6, 8, 12]

set_option backward.proofsInPublic true in
/-- The partner of device `c` at the `j`-th distance. -/
def nbr (j : Fin 7) (c : Dev nD) : Dev nD := ⟨(c.val ^^^ delta j) % 16, Nat.mod_lt _ (by decide)⟩

theorem nbr_nbr (j : Fin 7) (c : Dev nD) : nbr j (nbr j c) = c := by revert j c; decide

/-- Which distance each of the fourteen transfers goes over. -/
def slotPeer : Fin 14 → Fin 7 := ![0, 0, 1, 2, 1, 3, 4, 0, 3, 5, 6, 0, 1, 2]

/-- The partner of device `c` in transfer `s`: it sends to `c` what `c` sends to it. -/
abbrev tgt (s : Fin 14) (c : Dev nD) : Dev nD := nbr (slotPeer s) c

theorem tgt_tgt (s : Fin 14) (c : Dev nD) : tgt s (tgt s c) = c := nbr_nbr _ c

/-! ## The blocks sent -/

/-- A block as a landing slot holds it: with a leading axis of extent one. -/
def up (A : FVec F S256x128 .bf16) : Vec F S1x256x128 .bf16 := shapeCast S1x256x128 A (by decide)

variable (X : Dev nD → FVec F S256x128 .bf16)

/-- What device `c` holds when the first exchange begins. -/
def blk0 (c : Dev nD) : FVec F S256x128 .bf16 := seg0 c (X c)
/-- What device `c` holds after the first exchange's merge. -/
def mid1 (c : Dev nD) : FVec F S256x128 .bf16 := merge1 c (blk0 X c) (up (blk0 X (tgt 0 c)))
/-- What device `c` holds when the second exchange begins. -/
def blk1 (c : Dev nD) : FVec F S256x128 .bf16 := local1 c (mid1 X c)
/-- What device `c` holds after the second exchange's merge. -/
def mid2 (c : Dev nD) : FVec F S256x128 .bf16 :=
  merge2 c (blk1 X c) (up (blk1 X (tgt 1 c))) (up (blk1 X (tgt 2 c))) (up (blk1 X (tgt 3 c)))
/-- What device `c` holds when the third exchange begins. -/
def blk2 (c : Dev nD) : FVec F S256x128 .bf16 := local2 c (mid2 X c)
/-- What device `c` holds when the fourth exchange begins. -/
def blk3 (c : Dev nD) : FVec F S256x128 .bf16 :=
  merge3 c (blk2 X c) (up (blk2 X (tgt 4 c))) (up (blk2 X (tgt 5 c))) (up (blk2 X (tgt 6 c)))
/-- What device `c` holds after the fourth exchange's merge. -/
def mid4 (c : Dev nD) : FVec F S256x128 .bf16 := merge4 c (blk3 X c) (up (blk3 X (tgt 7 c)))
/-- What device `c` holds when the fifth exchange begins. -/
def blk4 (c : Dev nD) : FVec F S256x128 .bf16 := local4 c (mid4 X c)
/-- What device `c` holds when the sixth exchange begins. -/
def blk5 (c : Dev nD) : FVec F S256x128 .bf16 :=
  merge5 c (blk4 X c) (up (blk4 X (tgt 8 c))) (up (blk4 X (tgt 9 c))) (up (blk4 X (tgt 10 c)))
/-- What device `c` holds after the sixth exchange's merge. -/
def mid6 (c : Dev nD) : FVec F S256x128 .bf16 :=
  merge6 c (blk5 X c) (up (blk5 X (tgt 11 c))) (up (blk5 X (tgt 12 c))) (up (blk5 X (tgt 13 c)))
/-- What device `c` holds at the end, before it is widened into the result. -/
def blk6 (c : Dev nD) : FVec F S256x128 .bf16 := local6 c (mid6 X c)
/-- Device `c`'s result. -/
def outBlk (c : Dev nD) : FVec F S256x128 .f32 := k0_pay2 (blk6 X c)

/-- What device `c` sends in transfer `s`. -/
def sent (s : Fin 14) (c : Dev nD) : FVec F S256x128 .bf16 :=
  match s with
  | ⟨0, _⟩ => blk0 X c
  | ⟨1, _⟩ | ⟨2, _⟩ | ⟨3, _⟩ => blk1 X c
  | ⟨4, _⟩ | ⟨5, _⟩ | ⟨6, _⟩ => blk2 X c
  | ⟨7, _⟩ => blk3 X c
  | ⟨8, _⟩ | ⟨9, _⟩ | ⟨10, _⟩ => blk4 X c
  | _ => blk5 X c

end Cert.Sort

end
-- ==== Proof.Proto.lean ====
/-
# The exchange's protocol: cells, schedule, levels

One round per cell. A device's barrier cell collects one unit from each of its seven partners; the unit from the partner
at the `j`-th distance hands over the partner's landing slots for the transfers at that distance. A transfer's send cell
gives the working block back to its sender, its receive cell gives the landing slot, filled, to its owner.
-/
module

public import proofs.«01_k».proof.Proof.Vals
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Ring.Trips
public import Idealize.ShloMosaic.Lib.Tactic

@[expose] public section

noncomputable section

namespace Cert.Sort

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Memrefs and cells -/

abbrev xM : Memref sig .tc .vmem S256x128 .bf16 := Memref.whole cc0_stg0_0
abbrev oM : Memref sig .tc .vmem S256x128 .f32 := Memref.whole cc0_stg1_0
/-- The working block. -/
abbrev curM : Memref sig .tc .vmem S256x128 .bf16 := Memref.whole cc0_scratch0
/-- The fourteen landing slots. -/
abbrev rcvM : Memref sig .tc .vmem S14x256x128 .bf16 := Memref.whole cc0_scratch1

theorem inb_slot (s : Fin 14) : ∀ a, (![s.val, 0, 0] : Fin 3 → ℕ) a + S1x256x128.size a ≤ S14x256x128.size a := by
  revert s; decide
theorem inb_sem (s : Fin 14) : ∀ a, (![s.val] : Fin 1 → ℕ) a + S1.size a ≤ S14.size a := by
  revert s; decide

/-- Slot `s` of the landing buffer, as the rectangle a load names. -/
abbrev slotR (s : Fin 14) : Rect S14x256x128 := Rect.unit (s := S14x256x128) ![s.val, 0, 0] S1x256x128.size (inb_slot s)
/-- Slot `s` of the landing buffer, as a transfer's target. -/
abbrev slotM (s : Fin 14) : Memref sig .tc .vmem S256x128 .bf16 :=
  (rcvM.slice (slotR s) (fun _ => rfl)).squeeze S256x128 squeezes_S1x256x128_S256x128

/-- The runtime's barrier semaphore. -/
abbrev barS : Sem sig := (SemArray.scalar (sig.barrier 7 rfl) : Sems sig S_).sem
abbrev sendQ (s : Fin 14) : DmaSem sig := ((cc0_scratch2.slice (Rect.unit (s := S14) ![s.val] S1.size (inb_sem s))).squeeze S_ squeezes_S1_S_).sem
abbrev recvQ (s : Fin 14) : DmaSem sig := ((cc0_scratch3.slice (Rect.unit (s := S14) ![s.val] S1.size (inb_sem s))).squeeze S_ squeezes_S1_S_).sem

theorem sendQ_val (s : Fin 14) : (sendQ s).val = 2 + s.val := by revert s; decide
theorem recvQ_val (s : Fin 14) : (recvQ s).val = 16 + s.val := by revert s; decide

abbrev barCell (c : Dev nD) : GSem nD τ sig := ((c : Thread nD τ), .reg barS)
abbrev sendCell (s : Fin 14) (c : Dev nD) : GSem nD τ sig := ((c : Thread nD τ), .dma (sendQ s))
abbrev recvCell (s : Fin 14) (c : Dev nD) : GSem nD τ sig := ((c : Thread nD τ), .dma (recvQ s))

/-- The kernel's own scoped semaphores: for each transfer the send (`false`) and the receive (`true`) one; -/
abbrev osem : Bool × Fin 14 → SemLoc sig := fun | (false, s) => .dma (sendQ s) | (true, s) => .dma (recvQ s)
/-- and all the protocol's semaphores, the barrier first. -/
abbrev csem : Option (Bool × Fin 14) → SemLoc sig := fun | none => .reg barS | some k => osem k
abbrev CI : Type := Option (Bool × Fin 14)
abbrev kcell (ck : Dev nD × CI) : GSem nD τ sig := ((ck.1 : Thread nD τ), csem ck.2)

/-- The credit of one block. -/
abbrev N : ℕ := (slotM 0).view.dmaCredit
theorem N_pos : 0 < N := View.dmaCredit_pos _ (by decide)

/-! ## What is held of the buffers -/

/-- The working block of device `c` at share `q`, holding `A`. -/
def curPts (q : PosShare TreeShare) (c : Dev nD) (A : FVec F S256x128 .bf16) : sProp 𝕄 :=
  ((c : Thread nD τ).loc cc0_scratch0) ↦{q} (A : Buf (Elt F) ((c : Thread nD τ).loc cc0_scratch0))

/-- Slot `s` of device `c`, read as the block `A`. -/
def slotPts (s : Fin 14) (c : Dev nD) (A : FVec F S256x128 .bf16) : sProp 𝕄 :=
  iprop(∃ f : Buf (Elt F) ((slotM s).view.loc (c : Thread nD τ)), ⌜(slotM s).view.read (Elt F) f = A⌝ ∗ (slotM s).view.loc (c : Thread nD τ) ↦[(slotM s).view.set]{fullShare} f)

/-- Slot `s` of device `c` at some contents. -/
def slotAny (s : Fin 14) (c : Dev nD) : sProp 𝕄 :=
  iprop(∃ f : Buf (Elt F) ((slotM s).view.loc (c : Thread nD τ)), (slotM s).view.loc (c : Thread nD τ) ↦[(slotM s).view.set]{fullShare} f)

omit [FloatOps F] in
instance curPts_storable (q) (c : Dev nD) (A) : BI.Storable (upEmb : UEmb _ 𝕄) (curPts (F := F) q c A) := by unfold curPts; infer_instance
omit [FloatOps F] in
instance slotPts_storable (s) (c : Dev nD) (A) : BI.Storable (upEmb : UEmb _ 𝕄) (slotPts (F := F) s c A) := by unfold slotPts; infer_instance
omit [FloatOps F] in
instance slotAny_storable (s) (c : Dev nD) : BI.Storable (upEmb : UEmb _ 𝕄) (slotAny (F := F) s c) := by unfold slotAny; infer_instance

/-- The share of the working block transfer `s` reads it at: the whole when it travels alone, a third of three otherwise. -/
def sendShare : Fin 14 → PosShare TreeShare :=
  ![fullShare, Ring.shares3 fullShare 0, Ring.shares3 fullShare 1, Ring.shares3 fullShare 2, Ring.shares3 fullShare 0, Ring.shares3 fullShare 1, Ring.shares3 fullShare 2,
    fullShare, Ring.shares3 fullShare 0, Ring.shares3 fullShare 1, Ring.shares3 fullShare 2, Ring.shares3 fullShare 0, Ring.shares3 fullShare 1, Ring.shares3 fullShare 2]

/-! ## The schedule -/

/-- The transfers over the `j`-th distance. -/
def slotsOf : Fin 7 → List (Fin 14) := ![[0, 1, 7, 11], [2, 4, 12], [3, 13], [5, 8], [6], [9], [10]]

/-- What the unit of duty `j` of device `c`'s barrier cell hands `c`: the landing slots of its `j`-th partner for the
    transfers between the two. -/
def barPay (c : Dev nD) (j : Fin 7) : sProp 𝕄 := bigSepL (slotsOf j) fun s => slotAny (F := F) s (nbr j c)

omit [FloatOps F] in
theorem bigSepL_storable {A : Type} (Φ : A → sProp 𝕄) (h : ∀ a, BI.Storable (upEmb : UEmb _ 𝕄) (Φ a)) :
    ∀ l : List A, BI.Storable (upEmb : UEmb _ 𝕄) (bigSepL l Φ)
  | [] => by show BI.Storable upEmb iprop(emp); infer_instance
  | [a] => h a
  | a :: b :: l => by
    have := h a; have := bigSepL_storable Φ h (b :: l)
    show BI.Storable upEmb iprop(Φ a ∗ bigSepL (b :: l) Φ); infer_instance
omit [FloatOps F] in
instance barPay_storable (c : Dev nD) (j) : BI.Storable (upEmb : UEmb _ 𝕄) (barPay (F := F) c j) :=
  bigSepL_storable _ (fun s => inferInstance) _

variable (X : Dev nD → FVec F S256x128 .bf16)

/-- The exchange's schedule. -/
def xRd : Rounds.Schedule (GSem nD τ sig) (Fin 7) 𝕄 where
  duties g r := if r = 0 ∧ g.1.2 = .tc then (match g.2 with | .reg b => if b = barS then Finset.univ else ∅ | .dma q => if 2 ≤ q.val then {0} else ∅) else ∅
  unitless _ := False
  amount g _ _ := match g.2 with | .reg _ => 1 | .dma _ => N
  payload g _ d := match g.2 with
    | .reg _ => barPay g.1.1 d
    | .dma q => if h : 16 ≤ q.val then slotPts ⟨(q.val - 16) % 14, Nat.mod_lt _ (by decide)⟩ g.1.1 (sent X ⟨(q.val - 16) % 14, Nat.mod_lt _ (by decide)⟩ (tgt ⟨(q.val - 16) % 14, Nat.mod_lt _ (by decide)⟩ g.1.1))
        else curPts (sendShare ⟨(q.val - 2) % 14, Nat.mod_lt _ (by decide)⟩) g.1.1 (sent X ⟨(q.val - 2) % 14, Nat.mod_lt _ (by decide)⟩ g.1.1)
  amount_pos g _ _ _ := by
    cases g.2
    · exact Nat.one_pos
    · exact N_pos

instance xRd_payload_storable (g : GSem nD τ sig) (r : ℕ) (d : Fin 7) :
    BI.Storable (upEmb : UEmb _ 𝕄) ((xRd (F := F) X).payload g r d) := by
  dsimp only [xRd]
  (repeat' split) <;> infer_instance

section Sched
variable (s : Fin 14) (c : Dev nD) (d : Fin 7)

theorem duties_bar : (xRd X).duties (barCell c) 0 = Finset.univ := by
  dsimp only [xRd]; rw [if_pos ⟨rfl, rfl⟩, if_pos rfl]
theorem duties_send : (xRd X).duties (sendCell s c) 0 = {0} := by
  dsimp only [xRd]; rw [if_pos ⟨rfl, rfl⟩, if_pos (by rw [sendQ_val]; omega)]
theorem duties_recv : (xRd X).duties (recvCell s c) 0 = {0} := by
  dsimp only [xRd]; rw [if_pos ⟨rfl, rfl⟩, if_pos (by rw [recvQ_val]; omega)]
theorem duties_later (g : GSem nD τ sig) : ∀ r, 1 ≤ r → (xRd X).duties g r = ∅ :=
  fun r hr => by dsimp only [xRd]; rw [if_neg fun h => by omega]
theorem amount_bar : (xRd X).amount (barCell c) 0 d = 1 := rfl
theorem amount_send : (xRd X).amount (sendCell s c) 0 d = N := rfl
theorem amount_recv : (xRd X).amount (recvCell s c) 0 d = N := rfl
theorem expect_bar : (xRd X).expect (barCell c) 0 = 7 := by
  unfold Schedule.expect Schedule.amountOf
  rw [duties_bar, Finset.sum_congr rfl fun d _ => amount_bar X c d, Finset.sum_const, Finset.card_univ, Fintype.card_fin, smul_eq_mul]
theorem expect_send : (xRd X).expect (sendCell s c) 0 = N := by
  unfold Schedule.expect Schedule.amountOf; rw [duties_send, Finset.sum_singleton, amount_send]
theorem expect_recv : (xRd X).expect (recvCell s c) 0 = N := by
  unfold Schedule.expect Schedule.amountOf; rw [duties_recv, Finset.sum_singleton, amount_recv]
theorem payload_bar : (xRd X).payload (barCell c) 0 d = barPay c d := rfl
theorem payload_send : (xRd X).payload (sendCell s c) 0 d = curPts (sendShare s) c (sent X s c) := by
  dsimp only [xRd]
  have h : ¬ 16 ≤ (sendQ s).val := by rw [sendQ_val]; omega
  have e : (⟨((sendQ s).val - 2) % 14, Nat.mod_lt _ (by decide)⟩ : Fin 14) = s := Fin.ext (by show ((sendQ s).val - 2) % 14 = s.val; rw [sendQ_val]; omega)
  rw [dif_neg h, e]
theorem payload_recv : (xRd X).payload (recvCell s c) 0 d = slotPts s c (sent X s (tgt s c)) := by
  dsimp only [xRd]
  have h : 16 ≤ (recvQ s).val := by rw [recvQ_val]; omega
  have e : (⟨((recvQ s).val - 16) % 14, Nat.mod_lt _ (by decide)⟩ : Fin 14) = s := Fin.ext (by show ((recvQ s).val - 16) % 14 = s.val; rw [recvQ_val]; omega)
  rw [dif_pos h, e]

/-- The whole barrier round: each partner's landing slots for its transfers with `c`. -/
theorem rest_bar : bigSep ((xRd X).duties (barCell c) 0 \ ∅) (fun d => (xRd X).payload (barCell c) 0 d)
    = bigSepL [0, 1, 2, 3, 4, 5, 6] fun j => barPay c j := by
  rw [Finset.sdiff_empty, duties_bar, bigSep_univ_eq_bigSepL [0, 1, 2, 3, 4, 5, 6] (by decide) (by decide)]; rfl
theorem rest_send : bigSep ((xRd X).duties (sendCell s c) 0 \ ∅) (fun d => (xRd X).payload (sendCell s c) 0 d) = curPts (sendShare s) c (sent X s c) := by
  rw [Finset.sdiff_empty, duties_send, bigSep_singleton, payload_send]
theorem rest_recv : bigSep ((xRd X).duties (recvCell s c) 0 \ ∅) (fun d => (xRd X).payload (recvCell s c) 0 d) = slotPts s c (sent X s (tgt s c)) := by
  rw [Finset.sdiff_empty, duties_recv, bigSep_singleton, payload_recv]

end Sched

/-! ## What a device owes, and the levels -/

/-- One thing a device owes: a unit of its `j`-th partner's barrier cell, or transfer `s`'s block to its partner's receive cell. -/
abbrev Due : Type := Fin 7 ⊕ Fin 14

def dueCell (c : Dev nD) : Due → GSem nD τ sig
  | .inl j => barCell (nbr j c)
  | .inr s => recvCell s (tgt s c)
def dueAmt : Due → ℕ
  | .inl _ => 1
  | .inr _ => N
def dueLv : Due → ℕ
  | .inl _ => 1
  | .inr s => 2 + s.val

/-- What device `c` owes for a list of dues, the first to be paid as the last summand. -/
def dues (c : Dev nD) : List Due → CellTallies nD τ sig Unit
  | [] => 0
  | x :: l => dues c l + tallyAt (dueCell c x) () (dueAmt x)

/-- Everything a device owes at launch, in the order it pays. -/
def allDues : List Due := [.inl 0, .inl 1, .inl 2, .inl 3, .inl 4, .inl 5, .inl 6, .inr 0, .inr 1, .inr 2, .inr 3, .inr 4, .inr 5, .inr 6,
  .inr 7, .inr 8, .inr 9, .inr 10, .inr 11, .inr 12, .inr 13]

def O₀ (c : Dev nD) : CellTallies nD τ sig Unit := dues c allDues

def L (g : GSem nD τ sig) : Finset Unit := if g.1.2 = .tc then {()} else ∅
/-- Barrier cells at 1, the receive cell of transfer `s` at `2 + s`, everything else at 0. -/
def lv (g : GSem nD τ sig) (_ : Unit) : ℕ := match g.2 with
  | .reg _ => 1
  | .dma q => if 16 ≤ q.val then q.val - 14 else 0

theorem L_of_ne (g : GSem nD τ sig) (h : g.1.2 ≠ .tc) : L g = ∅ := if_neg h
theorem L_tc (c : Dev nD) (sm : SemLoc sig) : L ((c : Thread nD τ), sm) = {()} := if_pos rfl
theorem L_due (c : Dev nD) (x : Due) : L (dueCell c x) = {()} := by cases x <;> exact L_tc _ _
theorem lv_due (c : Dev nD) (x : Due) (u : Unit) : lv (dueCell c x) u = dueLv x := by
  cases x with
  | inl j => rfl
  | inr s => show (if 16 ≤ (recvQ s).val then (recvQ s).val - 14 else 0) = 2 + s.val
             rw [recvQ_val, if_pos (by omega)]; omega

/-- A cell owed something is one of the listed. -/
theorem dues_pos {c : Dev nD} {l : List Due} {g : GSem nD τ sig} {u : Unit} (h : 0 < dues c l g u) : ∃ x ∈ l, g = dueCell c x := by
  induction l with
  | nil => exact absurd h (Nat.lt_irrefl 0)
  | cons x l ih =>
    unfold dues at h
    rw [Pi.add_apply, Finsupp.add_apply, tallyAt_apply] at h
    by_cases e : g = dueCell c x
    · exact ⟨x, List.mem_cons_self, e⟩
    · rw [if_neg (fun h' => e h'.1)] at h
      obtain ⟨y, hy, e'⟩ := ih h
      exact ⟨y, List.mem_cons_of_mem _ hy, e'⟩

omit [FloatOps F] in
/-- A device may wait at a cell below everything it still owes. -/
theorem mayWait (c : Dev nD) (sm : SemLoc sig) (l : List Due) (h : ∀ x ∈ l, lv ((c : Thread nD τ), sm) () < dueLv x) :
    (levAts L lv : sProp 𝕄) ⊢ MayWait (c : Thread nD τ) sm () (dues c l) :=
  MayOwe.of_cut (L := L) (lev := lv) (lv ((c : Thread nD τ), sm) ())
    (fun p hp => by rw [Finset.mem_singleton.mp hp, L_tc]; exact Finset.mem_singleton_self _)
    (fun g u hg => by obtain ⟨x, -, rfl⟩ := dues_pos hg; rw [L_due]; exact Finset.mem_singleton_self _)
    (fun p hp => by rw [Finset.mem_singleton.mp hp])
    (fun g u hg => by obtain ⟨x, hx, rfl⟩ := dues_pos hg; rw [lv_due]; exact h x hx)

/-- What device `c` owes, whatever it has waited for. -/
def owing (c : Dev nD) (l : List Due) : sProp 𝕄 := iprop(∃ W : Waits sig Unit, owes (c : Thread nD τ) (dues c l) W)

end Cert.Sort

end
-- ==== Proof.Steps.lean ====
/-
# One rule per kind of effect

The kernel's effects on the exchange's state: a signal to a partner, the barrier wait, a transfer's start, its two waits,
the loads and stores of the working block and of a landing slot. Each is stated once, for any device, distance and transfer.
-/
module

public import proofs.«01_k».proof.Proof.Proto

@[expose] public section

noncomputable section

namespace Cert.Sort

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

variable (X : Dev nD → FVec F S256x128 .bf16) (K : Dev nD × CI → ℕ)

/-! ## The ghost state of one signal and of one transfer -/

/-- What device `c` signals its `j`-th partner's barrier with. -/
def Sig (j : Fin 7) (c : Dev nD) : sProp 𝕄 :=
  iprop(cellInv ER (xRd X) (K (nbr j c, none)) (barCell (nbr j c)) ∗ reached ER (barCell (nbr j c)) 0 ∗ dutyTok ER (barCell (nbr j c)) 0 j)

/-- What device `c` waits at its own barrier with. -/
def Bar (c : Dev nD) : sProp 𝕄 :=
  iprop(cellInv ER (xRd X) (K (c, none)) (barCell c) ∗ atPos ER (barCell c) 0 ∅ 0 ∗ cred (tallyAt (barCell c) () 7))

/-- What device `c` starts transfer `s` with, the working block and the landing slot apart. -/
def Kit (s : Fin 14) (c : Dev nD) : sProp 𝕄 :=
  iprop(cellInv ER (xRd X) (K (c, some (false, s))) (sendCell s c) ∗ cellInv ER (xRd X) (K (c, some (true, s))) (recvCell s c)
    ∗ cellInv ER (xRd X) (K (tgt s c, some (true, s))) (recvCell s (tgt s c))
    ∗ reached ER (sendCell s c) 0 ∗ reached ER (recvCell s (tgt s c)) 0
    ∗ atPos ER (sendCell s c) 0 ∅ 0 ∗ atPos ER (recvCell s c) 0 ∅ 0
    ∗ dutyTok ER (sendCell s c) 0 0 ∗ dutyTok ER (recvCell s (tgt s c)) 0 0
    ∗ cred (tallyAt (recvCell s c) () N))

/-- Transfer `s` of device `c` started: what its send wait takes, -/
def Sent (s : Fin 14) (c : Dev nD) : sProp 𝕄 :=
  iprop(cellInv ER (xRd X) (K (c, some (false, s))) (sendCell s c) ∗ atPos ER (sendCell s c) 0 ∅ 0 ∗ cred (tallyAt (sendCell s c) () N))
/-- and its receive wait. -/
def Due2 (s : Fin 14) (c : Dev nD) : sProp 𝕄 :=
  iprop(cellInv ER (xRd X) (K (c, some (true, s))) (recvCell s c) ∗ atPos ER (recvCell s c) 0 ∅ 0 ∗ cred (tallyAt (recvCell s c) () N))

section Rules

variable {α : Type} (c : Dev nD)

/-- A signal to the `j`-th partner, with the landing slots of `c` for the transfers between the two. -/
theorem signal_step (j : Fin 7) (n : Dev nD) (hn : n = nbr j c) (l : List Due) {k' : ℕ} (hk' : 1 = k') {k : PUnit → Prog (TpuEff nD τ sig (Elt F) Λ₀ .tc) α} {Q : α → sProp 𝕄} :
    iprop(Sig X K j c ∗ barPay (F := F) (nbr j c) j ∗ owing c (.inl j :: l))
      ⊢ iprop((owing c l -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS k') k) Q) := by
  subst hn hk'
  unfold Sig owing
  iintro ⟨⟨#HI, #Hr, Ht⟩, Hp, ⟨%W, HO⟩⟩ Hk
  iapply (Rounds.wp_signal 𝒱₀ ER (xRd X) (c : Thread nD τ) none (dst := (nbr j c : Thread nD τ)) (κ := K (nbr j c, none))
      (d := j) (by rw [duties_bar]; exact Finset.mem_univ _) (amount_bar X (nbr j c) j) () (dues c l) rfl)
    $$ [HO Ht Hp]
  · isplitr; · iexact HI
    isplitl [HO]; · iexact HO
    isplitl [Ht]; · iexact Ht
    isplitl [Hp]; · rw [payload_bar]; iexact Hp
    iexact Hr
  iintro HO
  iapply Hk
  iexists W; iexact HO

/-- The barrier wait: every partner's landing slots for the transfers with `c`. -/
theorem barrier_step (l : List Due) (hl : ∀ x ∈ l, 1 < dueLv x) {k' : ℕ} (hk' : 7 = k') {k : PUnit → Prog (TpuEff nD τ sig (Elt F) Λ₀ .tc) α} {Q : α → sProp 𝕄} :
    iprop(Bar X K c ∗ owing c l ∗ levAts L lv)
      ⊢ iprop(((semVal (barCell c) 0 ∗ owing c l ∗ bigSepL [0, 1, 2, 3, 4, 5, 6] fun j => barPay (F := F) c j)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS k') k) Q) := by
  subst hk'
  unfold Bar owing
  iintro ⟨⟨#HI, Hat, Hc⟩, ⟨%W, HO⟩, Hlev⟩ Hk
  iapply (Rounds.wp_wait_rest_token 𝒱₀ ER (xRd X) (c : Thread nD τ) none (κ := K (c, none))
      (wpE_semWait_eq 𝒱₀ (c : Thread nD τ) none Set.univ) (Set.mem_univ _) () (O := dues c l) (W := W) (R := 0) (m := 0) (T := ∅)
      (by rw [expect_bar])) $$ [Hc HO Hat Hlev]
  · isplitr; · iexact HI
    isplitl [Hc]; · iexact Hc
    isplitl [HO]; · iexact HO
    isplitl [Hlev]; · iapply (mayWait (F := F) c (.reg barS) l hl); iexact Hlev
    iexact Hat
  iintro ⟨HO, Hat, -, Hpay⟩
  ihave Hp := (Entails.of_eq (rest_bar X c)) $$ Hpay
  imod (Rounds.cell_close ER (xRd X) (Set.mem_univ (K (c, none))) (fun h => h) (R := 0 + 1) (duties_later X (barCell c))) $$ [Hat] with Hz
  · isplitr; · iexact HI
    iexact Hat
  iapply Hk
  isplitl [Hz]; · iexact Hz
  isplitl [HO]; · iexists _; iexact HO
  iexact Hp

omit [FloatOps F] in
theorem slot_written (s : Fin 14) (c' : Dev nD) (fd : Buf (Elt F) ((slotM s).view.loc (c' : Thread nD τ))) (A : FVec F S256x128 .bf16) :
    (slotM s).view.read (Elt F) ((slotM s).view.write (Elt F) fd A Finset.univ) = A :=
  View.read_write_univ _ _

/-- Transfer `s` starts: a share of the working block and the partner's landing slot go out. -/
theorem send_step (s : Fin 14) (n : Dev nD) (hn : n = tgt s c) (l : List Due)
    {hsc : (slotM s : Memref sig (Dev.tc n : Thread nD τ).2.kind .vmem S256x128 .bf16).view.ref.isScScratch = false}
    {hsrc : (curM : Memref sig .tc .vmem S256x128 .bf16).view.WordExact} {hdst : (slotM s).view.WordExact}
    {hsem : DmaTarget.Typed .vmem (.dma (recvQ s)) (.remote (Dev.tc n : Thread nD τ) (slotM s : Memref sig (Dev.tc n : Thread nD τ).2.kind .vmem S256x128 .bf16) (.dma (sendQ s)) hsc)}
    {k : PUnit → Prog (TpuEff nD τ sig (Elt F) Λ₀ .tc) α} {Q : α → sProp 𝕄} :
    iprop(Kit X K s c ∗ curPts (sendShare s) c (sent X s c) ∗ slotAny (F := F) s (tgt s c) ∗ owing c (.inr s :: l))
      ⊢ iprop(((Sent X K s c ∗ Due2 X K s c ∗ owing c l) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma curM (.remote (Dev.tc n : Thread nD τ) (slotM s) (.dma (sendQ s)) hsc) (.dma (recvQ s)) hsrc hdst hsem) k) Q) := by
  subst hn
  unfold Kit Sent Due2 owing slotAny curPts
  iintro ⟨⟨#HIs, #HIr, #HIt, #Hrs, #Hrt, Has, Har, Hts, Htr, Hcr⟩, Hcur, ⟨%fd, Hd⟩, ⟨%W, HO⟩⟩ Hk
  iapply (Rounds.wp_send_pointsTo 𝒱₀ ER (xRd X) (c : Thread nD τ) none (c' := (Dev.tc (tgt s c) : Thread nD τ)) (src := curM) (dst := slotM s)
    (κ₁ := K (c, some (false, s))) (κ₂ := K (tgt s c, some (true, s)))
    (r₁ := 0) (r₂ := 0) (d₁ := 0) (d₂ := 0) (q := sendShare s) (fs := sent X s c) (fd := fd)
    (by rw [duties_send]; exact Finset.mem_singleton_self _) (by rw [duties_recv]; exact Finset.mem_singleton_self _)
    () () N rfl (amount_send X s c 0) (amount_recv X s (tgt s c) 0) (dues c l) rfl (W := W)
    (by rw [payload_send]; unfold curPts; rw [View.set_whole])
    (by
      rw [payload_recv]; unfold slotPts
      rw [tgt_tgt]
      iintro H
      iexists ((slotM s).view.write (Elt F) fd ((curM : Memref sig .tc .vmem S256x128 .bf16).view.read (Elt F) (sent X s c)) Finset.univ)
      isplitr
      · ipureintro; exact (slot_written s (tgt s c) fd _).trans (View.read_whole (Val := Elt F) cc0_scratch0 (sent X s c))
      · iexact H)) $$ [Hcur Hd HO Hts Htr]
  · isplitr; · iexact HIs
    isplitr; · iexact HIt
    isplitl [Hcur]; · rw [View.set_whole]; iexact Hcur
    isplitl [Hd]; · iexact Hd
    isplitl [HO]; · iexact HO
    isplitl [Hts]; · iexact Hts
    isplitr; · iexact Hrs
    isplitl [Htr]; · iexact Htr
    iexact Hrt
  iintro ⟨Hcs, HO⟩
  iapply Hk
  isplitl [Has Hcs]
  · isplitr; · iexact HIs
    isplitl [Has]; · iexact Has
    iexact Hcs
  isplitl [Har Hcr]
  · isplitr; · iexact HIr
    isplitl [Har]; · iexact Har
    iexact Hcr
  iexists W; iexact HO

omit [FloatOps F] in
theorem credit_cur : (curM : Memref sig .tc .vmem S256x128 .bf16).view.dmaCredit = N := rfl
omit [FloatOps F] in
theorem credit_slot (s : Fin 14) : (slotM s).view.dmaCredit = N := rfl

/-- Transfer `s`'s send wait: the share of the working block back. -/
theorem wait_send_step (s : Fin 14) (q : PosShare TreeShare) (hq : sendShare s = q) (A : FVec F S256x128 .bf16) (hA : sent X s c = A) (l : List Due) (hl : ∀ x ∈ l, 0 < dueLv x)
    {hc : (slotM s).view.WordExact} {hd : (curM : Memref sig .tc .vmem S256x128 .bf16).view.WordExact}
    {k : PUnit → Prog (TpuEff nD τ sig (Elt F) Λ₀ .tc) α} {Q : α → sProp 𝕄} :
    iprop(Sent X K s c ∗ owing c l ∗ levAts L lv)
      ⊢ iprop(((semVal (sendCell s c) 0 ∗ curPts q c A ∗ owing c l)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sendQ s) (slotM s) curM hc hd) k) Q) := by
  subst hq hA
  unfold Sent owing
  iintro ⟨⟨#HI, Hat, Hc⟩, ⟨%W, HO⟩, Hlev⟩ Hk
  iapply (Rounds.wp_wait_rest_token 𝒱₀ ER (xRd X) (c : Thread nD τ) none (κ := K (c, some (false, s)))
      (wpE_waitDma2_eq 𝒱₀ (c : Thread nD τ) none Set.univ) (Set.mem_univ _) () (O := dues c l) (W := W) (R := 0) (m := 0) (T := ∅)
      (by rw [Nat.zero_add, expect_send, credit_cur])) $$ [Hc HO Hat Hlev]
  · isplitr; · iexact HI
    isplitl [Hc]; · rw [credit_cur]; iexact Hc
    isplitl [HO]; · iexact HO
    isplitl [Hlev]
    · iapply (mayWait (F := F) c (.dma (sendQ s)) l (by
        intro x hx; show (if 16 ≤ (sendQ s).val then (sendQ s).val - 14 else 0) < dueLv x
        rw [sendQ_val, if_neg (by omega)]; exact hl x hx)); iexact Hlev
    iexact Hat
  iintro ⟨HO, Hat, -, Hpay⟩
  ihave Hp := (Entails.of_eq (rest_send X s c)) $$ Hpay
  imod (Rounds.cell_close ER (xRd X) (Set.mem_univ (K (c, some (false, s)))) (fun h => h) (R := 0 + 1) (duties_later X (sendCell s c))) $$ [Hat] with Hz
  · isplitr; · iexact HI
    iexact Hat
  iapply Hk
  isplitl [Hz]; · iexact Hz
  isplitl [Hp]; · iexact Hp
  iexists _; iexact HO

/-- Transfer `s`'s receive wait: the landing slot holding what the partner sent. -/
theorem wait_recv_step (s : Fin 14) (A : FVec F S256x128 .bf16) (hA : sent X s (tgt s c) = A) (l : List Due) (hl : ∀ x ∈ l, 2 + s.val < dueLv x)
    {hc : (curM : Memref sig .tc .vmem S256x128 .bf16).view.WordExact} {hd : (slotM s).view.WordExact}
    {k : PUnit → Prog (TpuEff nD τ sig (Elt F) Λ₀ .tc) α} {Q : α → sProp 𝕄} :
    iprop(Due2 X K s c ∗ owing c l ∗ levAts L lv)
      ⊢ iprop(((semVal (recvCell s c) 0 ∗ slotPts s c A ∗ owing c l)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (recvQ s) curM (slotM s) hc hd) k) Q) := by
  subst hA
  unfold Due2 owing
  iintro ⟨⟨#HI, Hat, Hc⟩, ⟨%W, HO⟩, Hlev⟩ Hk
  iapply (Rounds.wp_wait_rest_token 𝒱₀ ER (xRd X) (c : Thread nD τ) none (κ := K (c, some (true, s)))
      (wpE_waitDma2_eq 𝒱₀ (c : Thread nD τ) none Set.univ) (Set.mem_univ _) () (O := dues c l) (W := W) (R := 0) (m := 0) (T := ∅)
      (by rw [Nat.zero_add, expect_recv, credit_slot])) $$ [Hc HO Hat Hlev]
  · isplitr; · iexact HI
    isplitl [Hc]; · rw [credit_slot]; iexact Hc
    isplitl [HO]; · iexact HO
    isplitl [Hlev]
    · iapply (mayWait (F := F) c (.dma (recvQ s)) l (by
        intro x hx; show (if 16 ≤ (recvQ s).val then (recvQ s).val - 14 else 0) < dueLv x
        rw [recvQ_val, if_pos (by omega)]; have := hl x hx; omega)); iexact Hlev
    iexact Hat
  iintro ⟨HO, Hat, -, Hpay⟩
  ihave Hp := (Entails.of_eq (rest_recv X s c)) $$ Hpay
  imod (Rounds.cell_close ER (xRd X) (Set.mem_univ (K (c, some (true, s)))) (fun h => h) (R := 0 + 1) (duties_later X (recvCell s c))) $$ [Hat] with Hz
  · isplitr; · iexact HI
    iexact Hat
  iapply Hk
  isplitl [Hz]; · iexact Hz
  isplitl [Hp]; · iexact Hp
  iexists _; iexact HO

/-! ## Loads and stores -/

abbrev r0 : Rect S256x128 := Rect.unit (s := S256x128) ![0, 0] S256x128.size inb_S256x128_S256x128_0_0

omit [FloatOps F] in
theorem hz : (![0, 0] : Fin 2 → Nat) = fun _ => 0 := funext fun a => by fin_cases a <;> rfl

omit [FloatOps F] in
theorem read_cur (f : FVec F S256x128 .bf16) : (curM : Memref sig .tc .vmem S256x128 .bf16).view.readAt (Elt F) r0.toLoadRect f = f :=
  Memref.readAt_unit_zero (Elt F) cc0_scratch0 hz _ f
omit [FloatOps F] in
theorem write_cur (f w : FVec F S256x128 .bf16) :
    ((curM : Memref sig .tc .vmem S256x128 .bf16).access r0 : View sig .tc _ _ _).write (Elt F) f w Finset.univ = w :=
  Memref.write_access_unit_zero_univ (Elt F) cc0_scratch0 hz _ f w

/-- A load of the working block. -/
theorem load_cur (q) (A : FVec F S256x128 .bf16) {hl} {k : Vec F S256x128 .bf16 → Prog (TpuEff nD τ sig (Elt F) Λ₀ .tc) α} {Q : α → sProp 𝕄} :
    curPts q c A
      ⊢ iprop((curPts q c A -∗ wp frame (wpE (defs₀ (F := F)) 𝒱₀ (c : Thread nD τ) none) Set.univ (k A) Q)
          -∗ wp frame (wpE (defs₀ (F := F)) 𝒱₀ (c : Thread nD τ) none) Set.univ (.op (.load curM r0.toLoadRect hl) k) Q) := by
  unfold curPts
  iintro H Hk
  iapply (wp_load (defs := defs₀ (F := F)) 𝒱₀ (c : Thread nD τ) none Set.univ (m := curM) (r := r0.toLoadRect) (Finset.subset_univ _)) $$ H
  iintro H
  rw [read_cur]
  iapply Hk; iexact H

/-- A store of the whole working block. -/
theorem store_cur (A B : FVec F S256x128 .bf16) {hx hm} {k : PUnit → Prog (TpuEff nD τ sig (Elt F) Λ₀ .tc) α} {Q : α → sProp 𝕄} :
    curPts fullShare c A
      ⊢ iprop((curPts fullShare c B -∗ wp frame (wpE (defs₀ (F := F)) 𝒱₀ (c : Thread nD τ) none) Set.univ (k ⟨⟩) Q)
          -∗ wp frame (wpE (defs₀ (F := F)) 𝒱₀ (c : Thread nD τ) none) Set.univ (.op (.store curM r0 B Finset.univ hx hm) k) Q) := by
  unfold curPts
  iintro H Hk
  iapply (wp_store (defs := defs₀ (F := F)) 𝒱₀ (c : Thread nD τ) none Set.univ (m := curM) (r := r0) (Mk := Finset.univ) (Finset.subset_univ _)) $$ H
  iintro H
  rw [write_cur]
  iapply Hk; iexact H

omit [FloatOps F] in
/-- What a slot's load reads, of a slot read as the block `A`. -/
theorem up_read (s : Fin 14) (c : Dev nD) (f : Buf (Elt F) ((slotM s).view.loc (c : Thread nD τ))) :
    (rcvM : Memref sig .tc .vmem S14x256x128 .bf16).view.readAt (Elt F) (slotR s).toLoadRect f = up ((slotM s).view.read (Elt F) f) := by
  rw [Memref.read_squeeze_slice rcvM (slotR s) (fun _ => rfl) squeezes_S1x256x128_S256x128 shapeCasts_S1x256x128_S256x128 f]
  unfold up
  rw [shapeCast_shapeCast]

omit [FloatOps F] in
theorem slot_set (s : Fin 14) : (rcvM : Memref sig .tc .vmem S14x256x128 .bf16).view.setOn (slotR s).toLoadRect.set ⊆ (slotM s).view.set := by
  rw [Memref.set_view_squeeze]
  exact (View.set_slice _ _).symm.subset

/-- A load of landing slot `s`. -/
theorem load_slot (s : Fin 14) (A : FVec F S256x128 .bf16) {hl} {k : Vec F S1x256x128 .bf16 → Prog (TpuEff nD τ sig (Elt F) Λ₀ .tc) α} {Q : α → sProp 𝕄} :
    slotPts s c A
      ⊢ iprop((slotPts s c A -∗ wp frame (wpE (defs₀ (F := F)) 𝒱₀ (c : Thread nD τ) none) Set.univ (k (up A)) Q)
          -∗ wp frame (wpE (defs₀ (F := F)) 𝒱₀ (c : Thread nD τ) none) Set.univ (.op (.load rcvM (slotR s).toLoadRect hl) k) Q) := by
  unfold slotPts
  iintro ⟨%f, %hf, H⟩ Hk
  iapply (wp_load (defs := defs₀ (F := F)) 𝒱₀ (c : Thread nD τ) none Set.univ (m := rcvM) (slot_set s)) $$ H
  iintro H
  rw [up_read s c f, hf]
  iapply Hk
  iexists f
  isplitr; · ipureintro; exact hf
  iexact H

end Rules

end Cert.Sort

end
-- ==== Proof.Parts.lean ====
/-
# The parts of the body that touch memory or a semaphore

One rule per printed part, each by the rules of `Steps`: what the part takes, what it gives back, and what it returns.
-/
module

public import proofs.«01_k».proof.Proof.Steps

@[expose] public section

noncomputable section

namespace Cert.Sort

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : Dev nD → FVec F S256x128 .bf16) (K : Dev nD × CI → ℕ)

theorem sdev0_eq (c : Dev nD) : (⟨k0_dev1 c, k0_dev1_lt c⟩ : Dev nD) = nbr 0 c := by revert c; decide
theorem sdev1_eq (c : Dev nD) : (⟨k0_dev2 c, k0_dev2_lt c⟩ : Dev nD) = nbr 1 c := by revert c; decide
theorem sdev2_eq (c : Dev nD) : (⟨k0_dev3 c, k0_dev3_lt c⟩ : Dev nD) = nbr 2 c := by revert c; decide
theorem sdev3_eq (c : Dev nD) : (⟨k0_dev4 c, k0_dev4_lt c⟩ : Dev nD) = nbr 3 c := by revert c; decide
theorem sdev4_eq (c : Dev nD) : (⟨k0_dev5 c, k0_dev5_lt c⟩ : Dev nD) = nbr 4 c := by revert c; decide
theorem sdev5_eq (c : Dev nD) : (⟨k0_dev6 c, k0_dev6_lt c⟩ : Dev nD) = nbr 5 c := by revert c; decide
theorem sdev6_eq (c : Dev nD) : (⟨k0_dev7 c, k0_dev7_lt c⟩ : Dev nD) = nbr 6 c := by revert c; decide
theorem dev0_eq (c : Dev nD) : (⟨k0_dev8 c, k0_dev8_lt c⟩ : Dev nD) = tgt 0 c := by revert c; decide
theorem dev1_eq (c : Dev nD) : (⟨k0_dev9 c, k0_dev9_lt c⟩ : Dev nD) = tgt 1 c := by revert c; decide
theorem dev2_eq (c : Dev nD) : (⟨k0_dev10 c, k0_dev10_lt c⟩ : Dev nD) = tgt 2 c := by revert c; decide
theorem dev3_eq (c : Dev nD) : (⟨k0_dev11 c, k0_dev11_lt c⟩ : Dev nD) = tgt 3 c := by revert c; decide
theorem dev4_eq (c : Dev nD) : (⟨k0_dev12 c, k0_dev12_lt c⟩ : Dev nD) = tgt 4 c := by revert c; decide
theorem dev5_eq (c : Dev nD) : (⟨k0_dev13 c, k0_dev13_lt c⟩ : Dev nD) = tgt 5 c := by revert c; decide
theorem dev6_eq (c : Dev nD) : (⟨k0_dev14 c, k0_dev14_lt c⟩ : Dev nD) = tgt 6 c := by revert c; decide
theorem dev7_eq (c : Dev nD) : (⟨k0_dev15 c, k0_dev15_lt c⟩ : Dev nD) = tgt 7 c := by revert c; decide
theorem dev8_eq (c : Dev nD) : (⟨k0_dev16 c, k0_dev16_lt c⟩ : Dev nD) = tgt 8 c := by revert c; decide
theorem dev9_eq (c : Dev nD) : (⟨k0_dev17 c, k0_dev17_lt c⟩ : Dev nD) = tgt 9 c := by revert c; decide
theorem dev10_eq (c : Dev nD) : (⟨k0_dev18 c, k0_dev18_lt c⟩ : Dev nD) = tgt 10 c := by revert c; decide
theorem dev11_eq (c : Dev nD) : (⟨k0_dev19 c, k0_dev19_lt c⟩ : Dev nD) = tgt 11 c := by revert c; decide
theorem dev12_eq (c : Dev nD) : (⟨k0_dev20 c, k0_dev20_lt c⟩ : Dev nD) = tgt 12 c := by revert c; decide
theorem dev13_eq (c : Dev nD) : (⟨k0_dev21 c, k0_dev21_lt c⟩ : Dev nD) = tgt 13 c := by revert c; decide

omit [FloatOps F] in
/-- The working block held whole is held by thirds, and back. -/
theorem cur_thirds (c : Dev nD) (A : FVec F S256x128 .bf16) :
    (curPts fullShare c A : sProp 𝕄) ⊣⊢ iprop(curPts (Ring.shares3 fullShare 0) c A ∗ curPts (Ring.shares3 fullShare 1) c A ∗ curPts (Ring.shares3 fullShare 2) c A) :=
  Ring.pointsTo_thirds fullShare _

section Parts

variable {α : Type} (c : Dev nD)

set_option maxHeartbeats 1000000 in
/-- Part 16 of the body: loads the working block, stores it, signals. -/
theorem part16_step (A : FVec F S256x128 .bf16) (v2 : BitVec 32) (v3 : BitVec 32) (v681 : FVec F S256x128 .bf16) (v688 : IVec S256x128 1) (v690 : IVec S256x128 32) (v691 : IVec S256x128 32) (hB : k0_pay67 v3 v681 v688 v690 v691 = blk0 X c)
    {k : (Sems sig S_) → Prog (TpuEff nD τ sig (Elt F) Λ₀ .tc) α} {Q : α → sProp 𝕄} :
    iprop(owing c [.inl 0, .inl 1, .inl 2, .inl 3, .inl 4, .inl 5, .inl 6, .inr 0, .inr 1, .inr 2, .inr 3, .inr 4, .inr 5, .inr 6, .inr 7, .inr 8, .inr 9, .inr 10, .inr 11, .inr 12, .inr 13] ∗ curPts fullShare c A ∗ Sig X K 0 c ∗ barPay (F := F) (nbr 0 c) 0)
      ⊢ iprop(((curPts fullShare c (blk0 X c) ∗ owing c [.inl 1, .inl 2, .inl 3, .inl 4, .inl 5, .inl 6, .inr 0, .inr 1, .inr 2, .inr 3, .inr 4, .inr 5, .inr 6, .inr 7, .inr 8, .inr 9, .inr 10, .inr 11, .inr 12, .inr 13]) -∗ wp frame (wpE (defs₀ (F := F)) 𝒱₀ (c : Thread nD τ) none) Set.univ (k ((SemArray.scalar (sig.barrier 7 rfl)))) Q)
          -∗ wp frame (wpE (defs₀ (F := F)) 𝒱₀ (c : Thread nD τ) none) Set.univ (k0_part16 xM (Memref.isWhole_whole _) oM (Memref.isWhole_whole _) curM (Memref.isWhole_whole _) rcvM (Memref.isWhole_whole _) cc0_scratch2 cc0_scratch3 c v2 v3 v681 v688 v690 v691 >>= k) Q) := by
  rw [k0_part16_eq_skeleton]; unfold k0_part16_skel
  simp only [semSignalWord, semWaitWord, Prog.lift, Prog.bind_op, Prog.bind_ret, Prog.pure_eq_ret, bind_assoc, pure_bind]
  iintro ⟨Ho, Hcur, HS0, HB0⟩ Hk
  iapply (load_cur c fullShare A) $$ Hcur; iintro Hcur
  rw [hB]
  iapply (store_cur c A (blk0 X c)) $$ Hcur; iintro Hcur
  iapply (signal_step X K c 0 _ (sdev0_eq c) [.inl 1, .inl 2, .inl 3, .inl 4, .inl 5, .inl 6, .inr 0, .inr 1, .inr 2, .inr 3, .inr 4, .inr 5, .inr 6, .inr 7, .inr 8, .inr 9, .inr 10, .inr 11, .inr 12, .inr 13] rfl) $$ [HS0 HB0 Ho]
  · isplitl [HS0]; · iexact HS0
    isplitl [HB0]; · iexact HB0
    iexact Ho
  iintro Ho
  iapply Hk
  isplitl [Hcur]; · iexact Hcur
  iexact Ho

set_option maxHeartbeats 1000000 in
/-- Part 17 of the body: signals, waits at the barrier. -/
theorem part17_step (v2 : BitVec 32)
    {k : (BitVec 32) → Prog (TpuEff nD τ sig (Elt F) Λ₀ .tc) α} {Q : α → sProp 𝕄} :
    iprop(owing c [.inl 1, .inl 2, .inl 3, .inl 4, .inl 5, .inl 6, .inr 0, .inr 1, .inr 2, .inr 3, .inr 4, .inr 5, .inr 6, .inr 7, .inr 8, .inr 9, .inr 10, .inr 11, .inr 12, .inr 13] ∗ levAts L lv ∗ Sig X K 1 c ∗ barPay (F := F) (nbr 1 c) 1 ∗ Sig X K 2 c ∗ barPay (F := F) (nbr 2 c) 2 ∗ Sig X K 3 c ∗ barPay (F := F) (nbr 3 c) 3 ∗ Sig X K 4 c ∗ barPay (F := F) (nbr 4 c) 4 ∗ Sig X K 5 c ∗ barPay (F := F) (nbr 5 c) 5 ∗ Sig X K 6 c ∗ barPay (F := F) (nbr 6 c) 6 ∗ Bar X K c)
      ⊢ iprop((((bigSepL [0, 1, 2, 3, 4, 5, 6] fun j => barPay (F := F) c j) ∗ semVal (barCell c) 0 ∗ owing c [.inr 0, .inr 1, .inr 2, .inr 3, .inr 4, .inr 5, .inr 6, .inr 7, .inr 8, .inr 9, .inr 10, .inr 11, .inr 12, .inr 13]) -∗ wp frame (wpE (defs₀ (F := F)) 𝒱₀ (c : Thread nD τ) none) Set.univ (k ((Scalar.xori v2 1#32))) Q)
          -∗ wp frame (wpE (defs₀ (F := F)) 𝒱₀ (c : Thread nD τ) none) Set.univ (k0_part17 xM (Memref.isWhole_whole _) oM (Memref.isWhole_whole _) curM (Memref.isWhole_whole _) rcvM (Memref.isWhole_whole _) cc0_scratch2 cc0_scratch3 c v2 (SemArray.scalar (sig.barrier 7 rfl)) >>= k) Q) := by
  rw [k0_part17_eq_skeleton]; unfold k0_part17_skel
  simp only [semSignalWord, semWaitWord, Prog.lift, Prog.bind_op, Prog.bind_ret, Prog.pure_eq_ret, bind_assoc, pure_bind]
  iintro ⟨Ho, #Hlev, HS1, HB1, HS2, HB2, HS3, HB3, HS4, HB4, HS5, HB5, HS6, HB6, HBar⟩ Hk
  iapply (signal_step X K c 1 _ (sdev1_eq c) [.inl 2, .inl 3, .inl 4, .inl 5, .inl 6, .inr 0, .inr 1, .inr 2, .inr 3, .inr 4, .inr 5, .inr 6, .inr 7, .inr 8, .inr 9, .inr 10, .inr 11, .inr 12, .inr 13] rfl) $$ [HS1 HB1 Ho]
  · isplitl [HS1]; · iexact HS1
    isplitl [HB1]; · iexact HB1
    iexact Ho
  iintro Ho
  iapply (signal_step X K c 2 _ (sdev2_eq c) [.inl 3, .inl 4, .inl 5, .inl 6, .inr 0, .inr 1, .inr 2, .inr 3, .inr 4, .inr 5, .inr 6, .inr 7, .inr 8, .inr 9, .inr 10, .inr 11, .inr 12, .inr 13] rfl) $$ [HS2 HB2 Ho]
  · isplitl [HS2]; · iexact HS2
    isplitl [HB2]; · iexact HB2
    iexact Ho
  iintro Ho
  iapply (signal_step X K c 3 _ (sdev3_eq c) [.inl 4, .inl 5, .inl 6, .inr 0, .inr 1, .inr 2, .inr 3, .inr 4, .inr 5, .inr 6, .inr 7, .inr 8, .inr 9, .inr 10, .inr 11, .inr 12, .inr 13] rfl) $$ [HS3 HB3 Ho]
  · isplitl [HS3]; · iexact HS3
    isplitl [HB3]; · iexact HB3
    iexact Ho
  iintro Ho
  iapply (signal_step X K c 4 _ (sdev4_eq c) [.inl 5, .inl 6, .inr 0, .inr 1, .inr 2, .inr 3, .inr 4, .inr 5, .inr 6, .inr 7, .inr 8, .inr 9, .inr 10, .inr 11, .inr 12, .inr 13] rfl) $$ [HS4 HB4 Ho]
  · isplitl [HS4]; · iexact HS4
    isplitl [HB4]; · iexact HB4
    iexact Ho
  iintro Ho
  iapply (signal_step X K c 5 _ (sdev5_eq c) [.inl 6, .inr 0, .inr 1, .inr 2, .inr 3, .inr 4, .inr 5, .inr 6, .inr 7, .inr 8, .inr 9, .inr 10, .inr 11, .inr 12, .inr 13] rfl) $$ [HS5 HB5 Ho]
  · isplitl [HS5]; · iexact HS5
    isplitl [HB5]; · iexact HB5
    iexact Ho
  iintro Ho
  iapply (signal_step X K c 6 _ (sdev6_eq c) [.inr 0, .inr 1, .inr 2, .inr 3, .inr 4, .inr 5, .inr 6, .inr 7, .inr 8, .inr 9, .inr 10, .inr 11, .inr 12, .inr 13] rfl) $$ [HS6 HB6 Ho]
  · isplitl [HS6]; · iexact HS6
    isplitl [HB6]; · iexact HB6
    iexact Ho
  iintro Ho
  iapply (barrier_step X K c [.inr 0, .inr 1, .inr 2, .inr 3, .inr 4, .inr 5, .inr 6, .inr 7, .inr 8, .inr 9, .inr 10, .inr 11, .inr 12, .inr 13] (by decide) rfl) $$ [HBar Ho]
  · isplitl [HBar]; · iexact HBar
    isplitl [Ho]; · iexact Ho
    iexact Hlev
  iintro ⟨HzB, Ho, Hland⟩
  iapply Hk
  isplitl [Hland]; · iexact Hland
  isplitl [HzB]; · iexact HzB
  iexact Ho

set_option maxHeartbeats 1000000 in
/-- Part 18 of the body: starts transfers, waits for them, loads the working block, loads landing slots. -/
theorem part18_step (v3 : BitVec 32) (v745 : BitVec 32)
    {k : (FVec F S256x128 .bf16) → Prog (TpuEff nD τ sig (Elt F) Λ₀ .tc) α} {Q : α → sProp 𝕄} :
    iprop(owing c [.inr 0, .inr 1, .inr 2, .inr 3, .inr 4, .inr 5, .inr 6, .inr 7, .inr 8, .inr 9, .inr 10, .inr 11, .inr 12, .inr 13] ∗ levAts L lv ∗ curPts fullShare c (blk0 X c) ∗ Kit X K 0 c ∗ slotAny (F := F) 0 (tgt 0 c))
      ⊢ iprop(((slotPts 0 c (blk0 X (tgt 0 c)) ∗ curPts fullShare c (blk0 X c) ∗ semVal (recvCell 0 c) 0 ∗ semVal (sendCell 0 c) 0 ∗ owing c [.inr 1, .inr 2, .inr 3, .inr 4, .inr 5, .inr 6, .inr 7, .inr 8, .inr 9, .inr 10, .inr 11, .inr 12, .inr 13]) -∗ wp frame (wpE (defs₀ (F := F)) 𝒱₀ (c : Thread nD τ) none) Set.univ (k ((k0_pay68 v3 (blk0 X c) (up (blk0 X (tgt 0 c)))))) Q)
          -∗ wp frame (wpE (defs₀ (F := F)) 𝒱₀ (c : Thread nD τ) none) Set.univ (k0_part18 xM (Memref.isWhole_whole _) oM (Memref.isWhole_whole _) curM (Memref.isWhole_whole _) rcvM (Memref.isWhole_whole _) cc0_scratch2 cc0_scratch3 c v3 v745 >>= k) Q) := by
  rw [k0_part18_eq_skeleton]; unfold k0_part18_skel
  simp only [semSignalWord, semWaitWord, Prog.lift, Prog.bind_op, Prog.bind_ret, Prog.pure_eq_ret, bind_assoc, pure_bind]
  iintro ⟨Ho, #Hlev, Hcur, HK0, HL0⟩ Hk
  iapply (send_step X K c 0 _ (dev0_eq c) [.inr 1, .inr 2, .inr 3, .inr 4, .inr 5, .inr 6, .inr 7, .inr 8, .inr 9, .inr 10, .inr 11, .inr 12, .inr 13]) $$ [HK0 Hcur HL0 Ho]
  · isplitl [HK0]; · iexact HK0
    isplitl [Hcur]; · iexact Hcur
    isplitl [HL0]; · iexact HL0
    iexact Ho
  iintro ⟨HT0, HR0, Ho⟩
  iapply (wait_send_step X K c 0 fullShare rfl (blk0 X c) rfl [.inr 1, .inr 2, .inr 3, .inr 4, .inr 5, .inr 6, .inr 7, .inr 8, .inr 9, .inr 10, .inr 11, .inr 12, .inr 13] (by decide)) $$ [HT0 Ho]
  · isplitl [HT0]; · iexact HT0
    isplitl [Ho]; · iexact Ho
    iexact Hlev
  iintro ⟨HzS0, Hcur, Ho⟩
  iapply (wait_recv_step X K c 0 (blk0 X (tgt 0 c)) rfl [.inr 1, .inr 2, .inr 3, .inr 4, .inr 5, .inr 6, .inr 7, .inr 8, .inr 9, .inr 10, .inr 11, .inr 12, .inr 13] (by decide)) $$ [HR0 Ho]
  · isplitl [HR0]; · iexact HR0
    isplitl [Ho]; · iexact Ho
    iexact Hlev
  iintro ⟨HzR0, HP0, Ho⟩
  iapply (load_cur c fullShare (blk0 X c)) $$ Hcur; iintro Hcur
  iapply (load_slot c 0 (blk0 X (tgt 0 c))) $$ HP0; iintro HP0
  iapply (load_cur c fullShare (blk0 X c)) $$ Hcur; iintro Hcur
  iapply Hk
  isplitl [HP0]; · iexact HP0
  isplitl [Hcur]; · iexact Hcur
  isplitl [HzR0]; · iexact HzR0
  isplitl [HzS0]; · iexact HzS0
  iexact Ho

set_option maxHeartbeats 1000000 in
/-- Part 19 of the body: stores it, loads the working block. -/
theorem part19_step (v3 : BitVec 32) (v782 : FVec F S256x128 .bf16) (hB : k0_pay69 v782 = mid1 X c)
    {k : (Σ' (v833 : FVec F S4x32x128 .bf16), FVec F S4x32x128 .bf16) → Prog (TpuEff nD τ sig (Elt F) Λ₀ .tc) α} {Q : α → sProp 𝕄} :
    iprop(curPts fullShare c (blk0 X c))
      ⊢ iprop(((curPts fullShare c (mid1 X c)) -∗ wp frame (wpE (defs₀ (F := F)) 𝒱₀ (c : Thread nD τ) none) Set.univ (k ⟨k0_pay71 v3 (mid1 X c), k0_pay72 v3 (mid1 X c)⟩) Q)
          -∗ wp frame (wpE (defs₀ (F := F)) 𝒱₀ (c : Thread nD τ) none) Set.univ (k0_part19 xM (Memref.isWhole_whole _) oM (Memref.isWhole_whole _) curM (Memref.isWhole_whole _) rcvM (Memref.isWhole_whole _) cc0_scratch2 cc0_scratch3 v3 v782 >>= k) Q) := by
  rw [k0_part19_eq_skeleton]; unfold k0_part19_skel
  simp only [semSignalWord, semWaitWord, Prog.lift, Prog.bind_op, Prog.bind_ret, Prog.pure_eq_ret, bind_assoc, pure_bind]
  iintro Hcur Hk
  rw [hB]
  iapply (store_cur c (blk0 X c) (mid1 X c)) $$ Hcur; iintro Hcur
  iapply (load_cur c fullShare (mid1 X c)) $$ Hcur; iintro Hcur
  iapply Hk
  iexact Hcur

set_option maxHeartbeats 1000000 in
/-- Part 22 of the body: loads the working block, stores it, starts transfers. -/
theorem part22_step (v2 : BitVec 32) (v3 : BitVec 32) (v912 : FVec F S256x128 .bf16) (v925 : IVec S256x128 1) (v928 : FVec F S256x128 .bf16) (hB : k0_pay82 v3 v912 v925 v928 = blk1 X c)
    {k : (Σ' (v954 : BitVec 32) (v963 : BitVec 32), BitVec 32) → Prog (TpuEff nD τ sig (Elt F) Λ₀ .tc) α} {Q : α → sProp 𝕄} :
    iprop(owing c [.inr 1, .inr 2, .inr 3, .inr 4, .inr 5, .inr 6, .inr 7, .inr 8, .inr 9, .inr 10, .inr 11, .inr 12, .inr 13] ∗ curPts fullShare c (mid1 X c) ∗ Kit X K 1 c ∗ slotAny (F := F) 1 (tgt 1 c))
      ⊢ iprop(((Due2 X K 1 c ∗ Sent X K 1 c ∗ curPts (Ring.shares3 fullShare 1) c (blk1 X c) ∗ curPts (Ring.shares3 fullShare 2) c (blk1 X c) ∗ owing c [.inr 2, .inr 3, .inr 4, .inr 5, .inr 6, .inr 7, .inr 8, .inr 9, .inr 10, .inr 11, .inr 12, .inr 13]) -∗ wp frame (wpE (defs₀ (F := F)) 𝒱₀ (c : Thread nD τ) none) Set.univ (k ⟨(Scalar.xori v2 1#32), (Scalar.xori v2 2#32), (Scalar.muli (Scalar.xori v2 2#32) 1#32)⟩) Q)
          -∗ wp frame (wpE (defs₀ (F := F)) 𝒱₀ (c : Thread nD τ) none) Set.univ (k0_part22 xM (Memref.isWhole_whole _) oM (Memref.isWhole_whole _) curM (Memref.isWhole_whole _) rcvM (Memref.isWhole_whole _) cc0_scratch2 cc0_scratch3 c v2 v3 v912 v925 v928 >>= k) Q) := by
  rw [k0_part22_eq_skeleton]; unfold k0_part22_skel
  simp only [semSignalWord, semWaitWord, Prog.lift, Prog.bind_op, Prog.bind_ret, Prog.pure_eq_ret, bind_assoc, pure_bind]
  iintro ⟨Ho, Hcur, HK1, HL1⟩ Hk
  iapply (load_cur c fullShare (mid1 X c)) $$ Hcur; iintro Hcur
  rw [hB]
  iapply (store_cur c (mid1 X c) (blk1 X c)) $$ Hcur; iintro Hcur
  icases (cur_thirds c (blk1 X c)).1 $$ Hcur with ⟨Hc0, Hc1, Hc2⟩
  iapply (send_step X K c 1 _ (dev1_eq c) [.inr 2, .inr 3, .inr 4, .inr 5, .inr 6, .inr 7, .inr 8, .inr 9, .inr 10, .inr 11, .inr 12, .inr 13]) $$ [HK1 Hc0 HL1 Ho]
  · isplitl [HK1]; · iexact HK1
    isplitl [Hc0]; · iexact Hc0
    isplitl [HL1]; · iexact HL1
    iexact Ho
  iintro ⟨HT1, HR1, Ho⟩
  iapply Hk
  isplitl [HR1]; · iexact HR1
  isplitl [HT1]; · iexact HT1
  isplitl [Hc1]; · iexact Hc1
  isplitl [Hc2]; · iexact Hc2
  iexact Ho

set_option maxHeartbeats 1000000 in
/-- Part 23 of the body: starts transfers, waits for them. -/
theorem part23_step (v2 : BitVec 32) (v954 : BitVec 32) (v964 : BitVec 32)
    {k : (BitVec 32) → Prog (TpuEff nD τ sig (Elt F) Λ₀ .tc) α} {Q : α → sProp 𝕄} :
    iprop(owing c [.inr 2, .inr 3, .inr 4, .inr 5, .inr 6, .inr 7, .inr 8, .inr 9, .inr 10, .inr 11, .inr 12, .inr 13] ∗ levAts L lv ∗ curPts (Ring.shares3 fullShare 1) c (blk1 X c) ∗ curPts (Ring.shares3 fullShare 2) c (blk1 X c) ∗ Kit X K 2 c ∗ slotAny (F := F) 2 (tgt 2 c) ∗ Kit X K 3 c ∗ slotAny (F := F) 3 (tgt 3 c) ∗ Sent X K 1 c ∗ Due2 X K 1 c)
      ⊢ iprop(((slotPts 1 c (blk1 X (tgt 1 c)) ∗ Due2 X K 2 c ∗ Due2 X K 3 c ∗ Sent X K 2 c ∗ Sent X K 3 c ∗ curPts (Ring.shares3 fullShare 0) c (blk1 X c) ∗ semVal (recvCell 1 c) 0 ∗ semVal (sendCell 1 c) 0 ∗ owing c [.inr 4, .inr 5, .inr 6, .inr 7, .inr 8, .inr 9, .inr 10, .inr 11, .inr 12, .inr 13]) -∗ wp frame (wpE (defs₀ (F := F)) 𝒱₀ (c : Thread nD τ) none) Set.univ (k ((Scalar.xori v2 3#32))) Q)
          -∗ wp frame (wpE (defs₀ (F := F)) 𝒱₀ (c : Thread nD τ) none) Set.univ (k0_part23 xM (Memref.isWhole_whole _) oM (Memref.isWhole_whole _) curM (Memref.isWhole_whole _) rcvM (Memref.isWhole_whole _) cc0_scratch2 cc0_scratch3 c v2 v954 v964 >>= k) Q) := by
  rw [k0_part23_eq_skeleton]; unfold k0_part23_skel
  simp only [semSignalWord, semWaitWord, Prog.lift, Prog.bind_op, Prog.bind_ret, Prog.pure_eq_ret, bind_assoc, pure_bind]
  iintro ⟨Ho, #Hlev, Hc1, Hc2, HK2, HL2, HK3, HL3, HT1, HR1⟩ Hk
  iapply (send_step X K c 2 _ (dev2_eq c) [.inr 3, .inr 4, .inr 5, .inr 6, .inr 7, .inr 8, .inr 9, .inr 10, .inr 11, .inr 12, .inr 13]) $$ [HK2 Hc1 HL2 Ho]
  · isplitl [HK2]; · iexact HK2
    isplitl [Hc1]; · iexact Hc1
    isplitl [HL2]; · iexact HL2
    iexact Ho
  iintro ⟨HT2, HR2, Ho⟩
  iapply (send_step X K c 3 _ (dev3_eq c) [.inr 4, .inr 5, .inr 6, .inr 7, .inr 8, .inr 9, .inr 10, .inr 11, .inr 12, .inr 13]) $$ [HK3 Hc2 HL3 Ho]
  · isplitl [HK3]; · iexact HK3
    isplitl [Hc2]; · iexact Hc2
    isplitl [HL3]; · iexact HL3
    iexact Ho
  iintro ⟨HT3, HR3, Ho⟩
  iapply (wait_send_step X K c 1 (Ring.shares3 fullShare 0) rfl (blk1 X c) rfl [.inr 4, .inr 5, .inr 6, .inr 7, .inr 8, .inr 9, .inr 10, .inr 11, .inr 12, .inr 13] (by decide)) $$ [HT1 Ho]
  · isplitl [HT1]; · iexact HT1
    isplitl [Ho]; · iexact Ho
    iexact Hlev
  iintro ⟨HzS1, Hc0, Ho⟩
  iapply (wait_recv_step X K c 1 (blk1 X (tgt 1 c)) rfl [.inr 4, .inr 5, .inr 6, .inr 7, .inr 8, .inr 9, .inr 10, .inr 11, .inr 12, .inr 13] (by decide)) $$ [HR1 Ho]
  · isplitl [HR1]; · iexact HR1
    isplitl [Ho]; · iexact Ho
    iexact Hlev
  iintro ⟨HzR1, HP1, Ho⟩
  iapply Hk
  isplitl [HP1]; · iexact HP1
  isplitl [HR2]; · iexact HR2
  isplitl [HR3]; · iexact HR3
  isplitl [HT2]; · iexact HT2
  isplitl [HT3]; · iexact HT3
  isplitl [Hc0]; · iexact Hc0
  isplitl [HzR1]; · iexact HzR1
  isplitl [HzS1]; · iexact HzS1
  iexact Ho

set_option maxHeartbeats 1000000 in
/-- Part 24 of the body: waits for them, loads the working block, loads landing slots. -/
theorem part24_step (v3 : BitVec 32) (v963 : BitVec 32) (v972 : BitVec 32)
    {k : (Σ' (v1013 : IVec S256x128 32) (v1014 : Vec F S256x128 .bf16) (v1016 : FVec F S256x128 .bf16), FVec F S256x128 .bf16) → Prog (TpuEff nD τ sig (Elt F) Λ₀ .tc) α} {Q : α → sProp 𝕄} :
    iprop(owing c [.inr 4, .inr 5, .inr 6, .inr 7, .inr 8, .inr 9, .inr 10, .inr 11, .inr 12, .inr 13] ∗ levAts L lv ∗ curPts (Ring.shares3 fullShare 0) c (blk1 X c) ∗ Sent X K 2 c ∗ Due2 X K 2 c ∗ Sent X K 3 c ∗ Due2 X K 3 c ∗ slotPts 1 c (blk1 X (tgt 1 c)))
      ⊢ iprop(((slotPts 1 c (blk1 X (tgt 1 c)) ∗ slotPts 2 c (blk1 X (tgt 2 c)) ∗ slotPts 3 c (blk1 X (tgt 3 c)) ∗ curPts fullShare c (blk1 X c) ∗ semVal (recvCell 2 c) 0 ∗ semVal (recvCell 3 c) 0 ∗ semVal (sendCell 2 c) 0 ∗ semVal (sendCell 3 c) 0 ∗ owing c [.inr 4, .inr 5, .inr 6, .inr 7, .inr 8, .inr 9, .inr 10, .inr 11, .inr 12, .inr 13]) -∗ wp frame (wpE (defs₀ (F := F)) 𝒱₀ (c : Thread nD τ) none) Set.univ (k ⟨k0_pay83 v3, (blk1 X c), k0_pay84 (up (blk1 X (tgt 1 c))), k0_pay85 (up (blk1 X (tgt 2 c)))⟩) Q)
          -∗ wp frame (wpE (defs₀ (F := F)) 𝒱₀ (c : Thread nD τ) none) Set.univ (k0_part24 xM (Memref.isWhole_whole _) oM (Memref.isWhole_whole _) curM (Memref.isWhole_whole _) rcvM (Memref.isWhole_whole _) cc0_scratch2 cc0_scratch3 v3 v963 v972 >>= k) Q) := by
  rw [k0_part24_eq_skeleton]; unfold k0_part24_skel
  simp only [semSignalWord, semWaitWord, Prog.lift, Prog.bind_op, Prog.bind_ret, Prog.pure_eq_ret, bind_assoc, pure_bind]
  iintro ⟨Ho, #Hlev, Hc0, HT2, HR2, HT3, HR3, HP1⟩ Hk
  iapply (wait_send_step X K c 2 (Ring.shares3 fullShare 1) rfl (blk1 X c) rfl [.inr 4, .inr 5, .inr 6, .inr 7, .inr 8, .inr 9, .inr 10, .inr 11, .inr 12, .inr 13] (by decide)) $$ [HT2 Ho]
  · isplitl [HT2]; · iexact HT2
    isplitl [Ho]; · iexact Ho
    iexact Hlev
  iintro ⟨HzS2, Hc1, Ho⟩
  iapply (wait_recv_step X K c 2 (blk1 X (tgt 2 c)) rfl [.inr 4, .inr 5, .inr 6, .inr 7, .inr 8, .inr 9, .inr 10, .inr 11, .inr 12, .inr 13] (by decide)) $$ [HR2 Ho]
  · isplitl [HR2]; · iexact HR2
    isplitl [Ho]; · iexact Ho
    iexact Hlev
  iintro ⟨HzR2, HP2, Ho⟩
  iapply (wait_send_step X K c 3 (Ring.shares3 fullShare 2) rfl (blk1 X c) rfl [.inr 4, .inr 5, .inr 6, .inr 7, .inr 8, .inr 9, .inr 10, .inr 11, .inr 12, .inr 13] (by decide)) $$ [HT3 Ho]
  · isplitl [HT3]; · iexact HT3
    isplitl [Ho]; · iexact Ho
    iexact Hlev
  iintro ⟨HzS3, Hc2, Ho⟩
  iapply (wait_recv_step X K c 3 (blk1 X (tgt 3 c)) rfl [.inr 4, .inr 5, .inr 6, .inr 7, .inr 8, .inr 9, .inr 10, .inr 11, .inr 12, .inr 13] (by decide)) $$ [HR3 Ho]
  · isplitl [HR3]; · iexact HR3
    isplitl [Ho]; · iexact Ho
    iexact Hlev
  iintro ⟨HzR3, HP3, Ho⟩
  ihave Hcur := (cur_thirds c (blk1 X c)).2 $$ [Hc0 Hc1 Hc2]
  · isplitl [Hc0]; · iexact Hc0
    isplitl [Hc1]; · iexact Hc1
    iexact Hc2
  iapply (load_cur c fullShare (blk1 X c)) $$ Hcur; iintro Hcur
  iapply (load_slot c 1 (blk1 X (tgt 1 c))) $$ HP1; iintro HP1
  iapply (load_slot c 2 (blk1 X (tgt 2 c))) $$ HP2; iintro HP2
  iapply Hk
  isplitl [HP1]; · iexact HP1
  isplitl [HP2]; · iexact HP2
  isplitl [HP3]; · iexact HP3
  isplitl [Hcur]; · iexact Hcur
  isplitl [HzR2]; · iexact HzR2
  isplitl [HzR3]; · iexact HzR3
  isplitl [HzS2]; · iexact HzS2
  isplitl [HzS3]; · iexact HzS3
  iexact Ho

set_option maxHeartbeats 1000000 in
/-- Part 25 of the body: loads landing slots. -/
theorem part25_step (v1013 : IVec S256x128 32) (v1014 : Vec F S256x128 .bf16) (v1016 : FVec F S256x128 .bf16) (v1018 : FVec F S256x128 .bf16)
    {k : (Σ' (v1033 : FVec F S256x128 .bf16) (v1048 : FVec F S256x128 .bf16) (v1058 : IVec S256x128 1), FVec F S256x128 .bf16) → Prog (TpuEff nD τ sig (Elt F) Λ₀ .tc) α} {Q : α → sProp 𝕄} :
    iprop(slotPts 3 c (blk1 X (tgt 3 c)))
      ⊢ iprop(((slotPts 3 c (blk1 X (tgt 3 c))) -∗ wp frame (wpE (defs₀ (F := F)) 𝒱₀ (c : Thread nD τ) none) Set.univ (k ⟨k0_pay86 v1013 v1014 v1018, k0_pay87 v1013 v1016 (up (blk1 X (tgt 3 c))), k0_pay88 v1013, k0_pay89 v1013 v1014 v1016 v1018 (up (blk1 X (tgt 3 c)))⟩) Q)
          -∗ wp frame (wpE (defs₀ (F := F)) 𝒱₀ (c : Thread nD τ) none) Set.univ (k0_part25 xM (Memref.isWhole_whole _) oM (Memref.isWhole_whole _) curM (Memref.isWhole_whole _) rcvM (Memref.isWhole_whole _) cc0_scratch2 cc0_scratch3 v1013 v1014 v1016 v1018 >>= k) Q) := by
  rw [k0_part25_eq_skeleton]; unfold k0_part25_skel
  simp only [semSignalWord, semWaitWord, Prog.lift, Prog.bind_op, Prog.bind_ret, Prog.pure_eq_ret, bind_assoc, pure_bind]
  iintro HP3 Hk
  iapply (load_slot c 3 (blk1 X (tgt 3 c))) $$ HP3; iintro HP3
  iapply Hk
  iexact HP3

set_option maxHeartbeats 1000000 in
/-- Part 26 of the body: loads the working block, stores it. -/
theorem part26_step (v3 : BitVec 32) (v1033 : FVec F S256x128 .bf16) (v1048 : FVec F S256x128 .bf16) (v1058 : IVec S256x128 1) (v1059 : FVec F S256x128 .bf16) (hB : k0_pay90 v1033 v1048 v1058 v1059 = mid2 X c)
    {k : (FVec F S2x2x64x128 .bf16) → Prog (TpuEff nD τ sig (Elt F) Λ₀ .tc) α} {Q : α → sProp 𝕄} :
    iprop(curPts fullShare c (blk1 X c))
      ⊢ iprop(((curPts fullShare c (mid2 X c)) -∗ wp frame (wpE (defs₀ (F := F)) 𝒱₀ (c : Thread nD τ) none) Set.univ (k ((k0_pay91 v3 (mid2 X c)))) Q)
          -∗ wp frame (wpE (defs₀ (F := F)) 𝒱₀ (c : Thread nD τ) none) Set.univ (k0_part26 xM (Memref.isWhole_whole _) oM (Memref.isWhole_whole _) curM (Memref.isWhole_whole _) rcvM (Memref.isWhole_whole _) cc0_scratch2 cc0_scratch3 v3 v1033 v1048 v1058 v1059 >>= k) Q) := by
  rw [k0_part26_eq_skeleton]; unfold k0_part26_skel
  simp only [semSignalWord, semWaitWord, Prog.lift, Prog.bind_op, Prog.bind_ret, Prog.pure_eq_ret, bind_assoc, pure_bind]
  iintro Hcur Hk
  iapply (load_cur c fullShare (blk1 X c)) $$ Hcur; iintro Hcur
  rw [hB]
  iapply (store_cur c (blk1 X c) (mid2 X c)) $$ Hcur; iintro Hcur
  iapply (load_cur c fullShare (mid2 X c)) $$ Hcur; iintro Hcur
  iapply Hk
  iexact Hcur

set_option maxHeartbeats 1000000 in
/-- Part 29 of the body: loads the working block, stores it, starts transfers. -/
theorem part29_step (v2 : BitVec 32) (v3 : BitVec 32) (v1191 : FVec F S256x128 .bf16) (v1198 : IVec S256x128 1) (v1203 : IVec S256x128 1) (cst_424 : IVec S256x128 1) (hB : k0_pay99 v3 v1191 v1198 v1203 cst_424 = blk2 X c)
    {k : (Σ' (v1233 : BitVec 32), BitVec 32) → Prog (TpuEff nD τ sig (Elt F) Λ₀ .tc) α} {Q : α → sProp 𝕄} :
    iprop(owing c [.inr 4, .inr 5, .inr 6, .inr 7, .inr 8, .inr 9, .inr 10, .inr 11, .inr 12, .inr 13] ∗ curPts fullShare c (mid2 X c) ∗ Kit X K 4 c ∗ slotAny (F := F) 4 (tgt 4 c))
      ⊢ iprop(((Due2 X K 4 c ∗ Sent X K 4 c ∗ curPts (Ring.shares3 fullShare 1) c (blk2 X c) ∗ curPts (Ring.shares3 fullShare 2) c (blk2 X c) ∗ owing c [.inr 5, .inr 6, .inr 7, .inr 8, .inr 9, .inr 10, .inr 11, .inr 12, .inr 13]) -∗ wp frame (wpE (defs₀ (F := F)) 𝒱₀ (c : Thread nD τ) none) Set.univ (k ⟨(Scalar.xori v2 2#32), 4#32⟩) Q)
          -∗ wp frame (wpE (defs₀ (F := F)) 𝒱₀ (c : Thread nD τ) none) Set.univ (k0_part29 xM (Memref.isWhole_whole _) oM (Memref.isWhole_whole _) curM (Memref.isWhole_whole _) rcvM (Memref.isWhole_whole _) cc0_scratch2 cc0_scratch3 c v2 v3 v1191 v1198 v1203 cst_424 >>= k) Q) := by
  rw [k0_part29_eq_skeleton]; unfold k0_part29_skel
  simp only [semSignalWord, semWaitWord, Prog.lift, Prog.bind_op, Prog.bind_ret, Prog.pure_eq_ret, bind_assoc, pure_bind]
  iintro ⟨Ho, Hcur, HK4, HL4⟩ Hk
  iapply (load_cur c fullShare (mid2 X c)) $$ Hcur; iintro Hcur
  rw [hB]
  iapply (store_cur c (mid2 X c) (blk2 X c)) $$ Hcur; iintro Hcur
  icases (cur_thirds c (blk2 X c)).1 $$ Hcur with ⟨Hc0, Hc1, Hc2⟩
  iapply (send_step X K c 4 _ (dev4_eq c) [.inr 5, .inr 6, .inr 7, .inr 8, .inr 9, .inr 10, .inr 11, .inr 12, .inr 13]) $$ [HK4 Hc0 HL4 Ho]
  · isplitl [HK4]; · iexact HK4
    isplitl [Hc0]; · iexact Hc0
    isplitl [HL4]; · iexact HL4
    iexact Ho
  iintro ⟨HT4, HR4, Ho⟩
  iapply Hk
  isplitl [HR4]; · iexact HR4
  isplitl [HT4]; · iexact HT4
  isplitl [Hc1]; · iexact Hc1
  isplitl [Hc2]; · iexact Hc2
  iexact Ho

set_option maxHeartbeats 1000000 in
/-- Part 30 of the body: starts transfers, waits for them. -/
theorem part30_step (v2 : BitVec 32) (v1233 : BitVec 32) (c4_i32_444 : BitVec 32)
    {k : (Σ' (v1242 : BitVec 32), BitVec 32) → Prog (TpuEff nD τ sig (Elt F) Λ₀ .tc) α} {Q : α → sProp 𝕄} :
    iprop(owing c [.inr 5, .inr 6, .inr 7, .inr 8, .inr 9, .inr 10, .inr 11, .inr 12, .inr 13] ∗ levAts L lv ∗ curPts (Ring.shares3 fullShare 1) c (blk2 X c) ∗ curPts (Ring.shares3 fullShare 2) c (blk2 X c) ∗ Kit X K 5 c ∗ slotAny (F := F) 5 (tgt 5 c) ∗ Kit X K 6 c ∗ slotAny (F := F) 6 (tgt 6 c) ∗ Sent X K 4 c ∗ Due2 X K 4 c)
      ⊢ iprop(((slotPts 4 c (blk2 X (tgt 4 c)) ∗ Due2 X K 5 c ∗ Due2 X K 6 c ∗ Sent X K 5 c ∗ Sent X K 6 c ∗ curPts (Ring.shares3 fullShare 0) c (blk2 X c) ∗ semVal (recvCell 4 c) 0 ∗ semVal (sendCell 4 c) 0 ∗ owing c [.inr 7, .inr 8, .inr 9, .inr 10, .inr 11, .inr 12, .inr 13]) -∗ wp frame (wpE (defs₀ (F := F)) 𝒱₀ (c : Thread nD τ) none) Set.univ (k ⟨(Scalar.xori v2 c4_i32_444), (Scalar.xori v2 6#32)⟩) Q)
          -∗ wp frame (wpE (defs₀ (F := F)) 𝒱₀ (c : Thread nD τ) none) Set.univ (k0_part30 xM (Memref.isWhole_whole _) oM (Memref.isWhole_whole _) curM (Memref.isWhole_whole _) rcvM (Memref.isWhole_whole _) cc0_scratch2 cc0_scratch3 c v2 v1233 c4_i32_444 >>= k) Q) := by
  rw [k0_part30_eq_skeleton]; unfold k0_part30_skel
  simp only [semSignalWord, semWaitWord, Prog.lift, Prog.bind_op, Prog.bind_ret, Prog.pure_eq_ret, bind_assoc, pure_bind]
  iintro ⟨Ho, #Hlev, Hc1, Hc2, HK5, HL5, HK6, HL6, HT4, HR4⟩ Hk
  iapply (send_step X K c 5 _ (dev5_eq c) [.inr 6, .inr 7, .inr 8, .inr 9, .inr 10, .inr 11, .inr 12, .inr 13]) $$ [HK5 Hc1 HL5 Ho]
  · isplitl [HK5]; · iexact HK5
    isplitl [Hc1]; · iexact Hc1
    isplitl [HL5]; · iexact HL5
    iexact Ho
  iintro ⟨HT5, HR5, Ho⟩
  iapply (send_step X K c 6 _ (dev6_eq c) [.inr 7, .inr 8, .inr 9, .inr 10, .inr 11, .inr 12, .inr 13]) $$ [HK6 Hc2 HL6 Ho]
  · isplitl [HK6]; · iexact HK6
    isplitl [Hc2]; · iexact Hc2
    isplitl [HL6]; · iexact HL6
    iexact Ho
  iintro ⟨HT6, HR6, Ho⟩
  iapply (wait_send_step X K c 4 (Ring.shares3 fullShare 0) rfl (blk2 X c) rfl [.inr 7, .inr 8, .inr 9, .inr 10, .inr 11, .inr 12, .inr 13] (by decide)) $$ [HT4 Ho]
  · isplitl [HT4]; · iexact HT4
    isplitl [Ho]; · iexact Ho
    iexact Hlev
  iintro ⟨HzS4, Hc0, Ho⟩
  iapply (wait_recv_step X K c 4 (blk2 X (tgt 4 c)) rfl [.inr 7, .inr 8, .inr 9, .inr 10, .inr 11, .inr 12, .inr 13] (by decide)) $$ [HR4 Ho]
  · isplitl [HR4]; · iexact HR4
    isplitl [Ho]; · iexact Ho
    iexact Hlev
  iintro ⟨HzR4, HP4, Ho⟩
  iapply Hk
  isplitl [HP4]; · iexact HP4
  isplitl [HR5]; · iexact HR5
  isplitl [HR6]; · iexact HR6
  isplitl [HT5]; · iexact HT5
  isplitl [HT6]; · iexact HT6
  isplitl [Hc0]; · iexact Hc0
  isplitl [HzR4]; · iexact HzR4
  isplitl [HzS4]; · iexact HzS4
  iexact Ho

set_option maxHeartbeats 1000000 in
/-- Part 31 of the body: waits for them, loads the working block, loads landing slots. -/
theorem part31_step (v3 : BitVec 32) (v1242 : BitVec 32) (v1251 : BitVec 32)
    {k : (Σ' (v1292 : IVec S256x128 32) (v1293 : Vec F S256x128 .bf16), Vec F S1x256x128 .bf16) → Prog (TpuEff nD τ sig (Elt F) Λ₀ .tc) α} {Q : α → sProp 𝕄} :
    iprop(owing c [.inr 7, .inr 8, .inr 9, .inr 10, .inr 11, .inr 12, .inr 13] ∗ levAts L lv ∗ curPts (Ring.shares3 fullShare 0) c (blk2 X c) ∗ Sent X K 5 c ∗ Due2 X K 5 c ∗ Sent X K 6 c ∗ Due2 X K 6 c ∗ slotPts 4 c (blk2 X (tgt 4 c)))
      ⊢ iprop(((slotPts 4 c (blk2 X (tgt 4 c)) ∗ slotPts 5 c (blk2 X (tgt 5 c)) ∗ slotPts 6 c (blk2 X (tgt 6 c)) ∗ curPts fullShare c (blk2 X c) ∗ semVal (recvCell 5 c) 0 ∗ semVal (recvCell 6 c) 0 ∗ semVal (sendCell 5 c) 0 ∗ semVal (sendCell 6 c) 0 ∗ owing c [.inr 7, .inr 8, .inr 9, .inr 10, .inr 11, .inr 12, .inr 13]) -∗ wp frame (wpE (defs₀ (F := F)) 𝒱₀ (c : Thread nD τ) none) Set.univ (k ⟨k0_pay100 v3, (blk2 X c), (up (blk2 X (tgt 4 c)))⟩) Q)
          -∗ wp frame (wpE (defs₀ (F := F)) 𝒱₀ (c : Thread nD τ) none) Set.univ (k0_part31 xM (Memref.isWhole_whole _) oM (Memref.isWhole_whole _) curM (Memref.isWhole_whole _) rcvM (Memref.isWhole_whole _) cc0_scratch2 cc0_scratch3 v3 v1242 v1251 >>= k) Q) := by
  rw [k0_part31_eq_skeleton]; unfold k0_part31_skel
  simp only [semSignalWord, semWaitWord, Prog.lift, Prog.bind_op, Prog.bind_ret, Prog.pure_eq_ret, bind_assoc, pure_bind]
  iintro ⟨Ho, #Hlev, Hc0, HT5, HR5, HT6, HR6, HP4⟩ Hk
  iapply (wait_send_step X K c 5 (Ring.shares3 fullShare 1) rfl (blk2 X c) rfl [.inr 7, .inr 8, .inr 9, .inr 10, .inr 11, .inr 12, .inr 13] (by decide)) $$ [HT5 Ho]
  · isplitl [HT5]; · iexact HT5
    isplitl [Ho]; · iexact Ho
    iexact Hlev
  iintro ⟨HzS5, Hc1, Ho⟩
  iapply (wait_recv_step X K c 5 (blk2 X (tgt 5 c)) rfl [.inr 7, .inr 8, .inr 9, .inr 10, .inr 11, .inr 12, .inr 13] (by decide)) $$ [HR5 Ho]
  · isplitl [HR5]; · iexact HR5
    isplitl [Ho]; · iexact Ho
    iexact Hlev
  iintro ⟨HzR5, HP5, Ho⟩
  iapply (wait_send_step X K c 6 (Ring.shares3 fullShare 2) rfl (blk2 X c) rfl [.inr 7, .inr 8, .inr 9, .inr 10, .inr 11, .inr 12, .inr 13] (by decide)) $$ [HT6 Ho]
  · isplitl [HT6]; · iexact HT6
    isplitl [Ho]; · iexact Ho
    iexact Hlev
  iintro ⟨HzS6, Hc2, Ho⟩
  iapply (wait_recv_step X K c 6 (blk2 X (tgt 6 c)) rfl [.inr 7, .inr 8, .inr 9, .inr 10, .inr 11, .inr 12, .inr 13] (by decide)) $$ [HR6 Ho]
  · isplitl [HR6]; · iexact HR6
    isplitl [Ho]; · iexact Ho
    iexact Hlev
  iintro ⟨HzR6, HP6, Ho⟩
  ihave Hcur := (cur_thirds c (blk2 X c)).2 $$ [Hc0 Hc1 Hc2]
  · isplitl [Hc0]; · iexact Hc0
    isplitl [Hc1]; · iexact Hc1
    iexact Hc2
  iapply (load_cur c fullShare (blk2 X c)) $$ Hcur; iintro Hcur
  iapply (load_slot c 4 (blk2 X (tgt 4 c))) $$ HP4; iintro HP4
  iapply Hk
  isplitl [HP4]; · iexact HP4
  isplitl [HP5]; · iexact HP5
  isplitl [HP6]; · iexact HP6
  isplitl [Hcur]; · iexact Hcur
  isplitl [HzR5]; · iexact HzR5
  isplitl [HzR6]; · iexact HzR6
  isplitl [HzS5]; · iexact HzS5
  isplitl [HzS6]; · iexact HzS6
  iexact Ho

set_option maxHeartbeats 1000000 in
/-- Part 32 of the body: loads landing slots. -/
theorem part32_step (v1292 : IVec S256x128 32) (v1293 : Vec F S256x128 .bf16) (v1294 : Vec F S1x256x128 .bf16)
    {k : (Σ' (v1312 : FVec F S256x128 .bf16) (v1327 : FVec F S256x128 .bf16) (v1331 : IVec S256x128 1) (v1333 : IVec S256x128 32), BitVec 32) → Prog (TpuEff nD τ sig (Elt F) Λ₀ .tc) α} {Q : α → sProp 𝕄} :
    iprop(slotPts 5 c (blk2 X (tgt 5 c)) ∗ slotPts 6 c (blk2 X (tgt 6 c)))
      ⊢ iprop(((slotPts 5 c (blk2 X (tgt 5 c)) ∗ slotPts 6 c (blk2 X (tgt 6 c))) -∗ wp frame (wpE (defs₀ (F := F)) 𝒱₀ (c : Thread nD τ) none) Set.univ (k ⟨k0_pay101 v1292 v1293 (up (blk2 X (tgt 5 c))), k0_pay102 v1292 v1294 (up (blk2 X (tgt 6 c))), k0_pay103 v1292, k0_pay104 v1292, 0#32⟩) Q)
          -∗ wp frame (wpE (defs₀ (F := F)) 𝒱₀ (c : Thread nD τ) none) Set.univ (k0_part32 xM (Memref.isWhole_whole _) oM (Memref.isWhole_whole _) curM (Memref.isWhole_whole _) rcvM (Memref.isWhole_whole _) cc0_scratch2 cc0_scratch3 v1292 v1293 v1294 >>= k) Q) := by
  rw [k0_part32_eq_skeleton]; unfold k0_part32_skel
  simp only [semSignalWord, semWaitWord, Prog.lift, Prog.bind_op, Prog.bind_ret, Prog.pure_eq_ret, bind_assoc, pure_bind]
  iintro ⟨HP5, HP6⟩ Hk
  iapply (load_slot c 5 (blk2 X (tgt 5 c))) $$ HP5; iintro HP5
  iapply (load_slot c 6 (blk2 X (tgt 6 c))) $$ HP6; iintro HP6
  iapply Hk
  isplitl [HP5]; · iexact HP5
  iexact HP6

set_option maxHeartbeats 1000000 in
/-- Part 33 of the body: loads the working block, stores it, starts transfers, waits for them. -/
theorem part33_step (v2 : BitVec 32) (v3 : BitVec 32) (v1312 : FVec F S256x128 .bf16) (v1327 : FVec F S256x128 .bf16) (v1331 : IVec S256x128 1) (v1333 : IVec S256x128 32) (c0_i32_519 : BitVec 32) (hB : k0_pay105 v1312 v1327 v1331 v1333 c0_i32_519 = blk3 X c)
    {k : (IVec S256x128 32) → Prog (TpuEff nD τ sig (Elt F) Λ₀ .tc) α} {Q : α → sProp 𝕄} :
    iprop(owing c [.inr 7, .inr 8, .inr 9, .inr 10, .inr 11, .inr 12, .inr 13] ∗ levAts L lv ∗ curPts fullShare c (blk2 X c) ∗ Kit X K 7 c ∗ slotAny (F := F) 7 (tgt 7 c))
      ⊢ iprop(((slotPts 7 c (blk3 X (tgt 7 c)) ∗ curPts fullShare c (blk3 X c) ∗ semVal (recvCell 7 c) 0 ∗ semVal (sendCell 7 c) 0 ∗ owing c [.inr 8, .inr 9, .inr 10, .inr 11, .inr 12, .inr 13]) -∗ wp frame (wpE (defs₀ (F := F)) 𝒱₀ (c : Thread nD τ) none) Set.univ (k ((k0_pay106 v3))) Q)
          -∗ wp frame (wpE (defs₀ (F := F)) 𝒱₀ (c : Thread nD τ) none) Set.univ (k0_part33 xM (Memref.isWhole_whole _) oM (Memref.isWhole_whole _) curM (Memref.isWhole_whole _) rcvM (Memref.isWhole_whole _) cc0_scratch2 cc0_scratch3 c v2 v3 v1312 v1327 v1331 v1333 c0_i32_519 >>= k) Q) := by
  rw [k0_part33_eq_skeleton]; unfold k0_part33_skel
  simp only [semSignalWord, semWaitWord, Prog.lift, Prog.bind_op, Prog.bind_ret, Prog.pure_eq_ret, bind_assoc, pure_bind]
  iintro ⟨Ho, #Hlev, Hcur, HK7, HL7⟩ Hk
  iapply (load_cur c fullShare (blk2 X c)) $$ Hcur; iintro Hcur
  rw [hB]
  iapply (store_cur c (blk2 X c) (blk3 X c)) $$ Hcur; iintro Hcur
  iapply (send_step X K c 7 _ (dev7_eq c) [.inr 8, .inr 9, .inr 10, .inr 11, .inr 12, .inr 13]) $$ [HK7 Hcur HL7 Ho]
  · isplitl [HK7]; · iexact HK7
    isplitl [Hcur]; · iexact Hcur
    isplitl [HL7]; · iexact HL7
    iexact Ho
  iintro ⟨HT7, HR7, Ho⟩
  iapply (wait_send_step X K c 7 fullShare rfl (blk3 X c) rfl [.inr 8, .inr 9, .inr 10, .inr 11, .inr 12, .inr 13] (by decide)) $$ [HT7 Ho]
  · isplitl [HT7]; · iexact HT7
    isplitl [Ho]; · iexact Ho
    iexact Hlev
  iintro ⟨HzS7, Hcur, Ho⟩
  iapply (wait_recv_step X K c 7 (blk3 X (tgt 7 c)) rfl [.inr 8, .inr 9, .inr 10, .inr 11, .inr 12, .inr 13] (by decide)) $$ [HR7 Ho]
  · isplitl [HR7]; · iexact HR7
    isplitl [Ho]; · iexact Ho
    iexact Hlev
  iintro ⟨HzR7, HP7, Ho⟩
  iapply Hk
  isplitl [HP7]; · iexact HP7
  isplitl [Hcur]; · iexact Hcur
  isplitl [HzR7]; · iexact HzR7
  isplitl [HzS7]; · iexact HzS7
  iexact Ho

set_option maxHeartbeats 1000000 in
/-- Part 34 of the body: loads the working block, loads landing slots, stores it. -/
theorem part34_step (v3 : BitVec 32) (v1365 : IVec S256x128 32) (hB : k0_pay107 v1365 (blk3 X c) (up (blk3 X (tgt 7 c))) = mid4 X c)
    {k : (FVec F S256x128 .bf16) → Prog (TpuEff nD τ sig (Elt F) Λ₀ .tc) α} {Q : α → sProp 𝕄} :
    iprop(curPts fullShare c (blk3 X c) ∗ slotPts 7 c (blk3 X (tgt 7 c)))
      ⊢ iprop(((slotPts 7 c (blk3 X (tgt 7 c)) ∗ curPts fullShare c (mid4 X c)) -∗ wp frame (wpE (defs₀ (F := F)) 𝒱₀ (c : Thread nD τ) none) Set.univ (k ((k0_pay108 v3 (mid4 X c)))) Q)
          -∗ wp frame (wpE (defs₀ (F := F)) 𝒱₀ (c : Thread nD τ) none) Set.univ (k0_part34 xM (Memref.isWhole_whole _) oM (Memref.isWhole_whole _) curM (Memref.isWhole_whole _) rcvM (Memref.isWhole_whole _) cc0_scratch2 cc0_scratch3 v3 v1365 >>= k) Q) := by
  rw [k0_part34_eq_skeleton]; unfold k0_part34_skel
  simp only [semSignalWord, semWaitWord, Prog.lift, Prog.bind_op, Prog.bind_ret, Prog.pure_eq_ret, bind_assoc, pure_bind]
  iintro ⟨Hcur, HP7⟩ Hk
  iapply (load_cur c fullShare (blk3 X c)) $$ Hcur; iintro Hcur
  iapply (load_slot c 7 (blk3 X (tgt 7 c))) $$ HP7; iintro HP7
  iapply (load_cur c fullShare (blk3 X c)) $$ Hcur; iintro Hcur
  rw [hB]
  iapply (store_cur c (blk3 X c) (mid4 X c)) $$ Hcur; iintro Hcur
  iapply (load_cur c fullShare (mid4 X c)) $$ Hcur; iintro Hcur
  iapply Hk
  isplitl [HP7]; · iexact HP7
  iexact Hcur

set_option maxHeartbeats 1000000 in
/-- Part 38 of the body: loads the working block, stores it, starts transfers. -/
theorem part38_step (v2 : BitVec 32) (v1549 : FVec F S256x128 .bf16) (hB : k0_pay120 v1549 = blk4 X c)
    {k : (Σ' (v1553 : BitVec 32) (v1562 : BitVec 32), BitVec 32) → Prog (TpuEff nD τ sig (Elt F) Λ₀ .tc) α} {Q : α → sProp 𝕄} :
    iprop(owing c [.inr 8, .inr 9, .inr 10, .inr 11, .inr 12, .inr 13] ∗ curPts fullShare c (mid4 X c) ∗ Kit X K 8 c ∗ slotAny (F := F) 8 (tgt 8 c) ∗ Kit X K 9 c ∗ slotAny (F := F) 9 (tgt 9 c) ∗ Kit X K 10 c ∗ slotAny (F := F) 10 (tgt 10 c))
      ⊢ iprop(((Due2 X K 8 c ∗ Due2 X K 9 c ∗ Due2 X K 10 c ∗ Sent X K 8 c ∗ Sent X K 9 c ∗ Sent X K 10 c ∗ owing c [.inr 11, .inr 12, .inr 13]) -∗ wp frame (wpE (defs₀ (F := F)) 𝒱₀ (c : Thread nD τ) none) Set.univ (k ⟨(Scalar.xori v2 4#32), (Scalar.xori v2 8#32), (Scalar.xori v2 12#32)⟩) Q)
          -∗ wp frame (wpE (defs₀ (F := F)) 𝒱₀ (c : Thread nD τ) none) Set.univ (k0_part38 xM (Memref.isWhole_whole _) oM (Memref.isWhole_whole _) curM (Memref.isWhole_whole _) rcvM (Memref.isWhole_whole _) cc0_scratch2 cc0_scratch3 c v2 v1549 >>= k) Q) := by
  rw [k0_part38_eq_skeleton]; unfold k0_part38_skel
  simp only [semSignalWord, semWaitWord, Prog.lift, Prog.bind_op, Prog.bind_ret, Prog.pure_eq_ret, bind_assoc, pure_bind]
  iintro ⟨Ho, Hcur, HK8, HL8, HK9, HL9, HK10, HL10⟩ Hk
  iapply (load_cur c fullShare (mid4 X c)) $$ Hcur; iintro Hcur
  rw [hB]
  iapply (store_cur c (mid4 X c) (blk4 X c)) $$ Hcur; iintro Hcur
  icases (cur_thirds c (blk4 X c)).1 $$ Hcur with ⟨Hc0, Hc1, Hc2⟩
  iapply (send_step X K c 8 _ (dev8_eq c) [.inr 9, .inr 10, .inr 11, .inr 12, .inr 13]) $$ [HK8 Hc0 HL8 Ho]
  · isplitl [HK8]; · iexact HK8
    isplitl [Hc0]; · iexact Hc0
    isplitl [HL8]; · iexact HL8
    iexact Ho
  iintro ⟨HT8, HR8, Ho⟩
  iapply (send_step X K c 9 _ (dev9_eq c) [.inr 10, .inr 11, .inr 12, .inr 13]) $$ [HK9 Hc1 HL9 Ho]
  · isplitl [HK9]; · iexact HK9
    isplitl [Hc1]; · iexact Hc1
    isplitl [HL9]; · iexact HL9
    iexact Ho
  iintro ⟨HT9, HR9, Ho⟩
  iapply (send_step X K c 10 _ (dev10_eq c) [.inr 11, .inr 12, .inr 13]) $$ [HK10 Hc2 HL10 Ho]
  · isplitl [HK10]; · iexact HK10
    isplitl [Hc2]; · iexact Hc2
    isplitl [HL10]; · iexact HL10
    iexact Ho
  iintro ⟨HT10, HR10, Ho⟩
  iapply Hk
  isplitl [HR8]; · iexact HR8
  isplitl [HR9]; · iexact HR9
  isplitl [HR10]; · iexact HR10
  isplitl [HT8]; · iexact HT8
  isplitl [HT9]; · iexact HT9
  isplitl [HT10]; · iexact HT10
  iexact Ho

set_option maxHeartbeats 1000000 in
/-- Part 39 of the body: waits for them. -/
theorem part39_step (v1553 : BitVec 32) (v1562 : BitVec 32)
    {k : (PUnit) → Prog (TpuEff nD τ sig (Elt F) Λ₀ .tc) α} {Q : α → sProp 𝕄} :
    iprop(owing c [.inr 11, .inr 12, .inr 13] ∗ levAts L lv ∗ Sent X K 8 c ∗ Due2 X K 8 c ∗ Sent X K 9 c ∗ Due2 X K 9 c ∗ Sent X K 10 c)
      ⊢ iprop(((slotPts 8 c (blk4 X (tgt 8 c)) ∗ slotPts 9 c (blk4 X (tgt 9 c)) ∗ curPts (Ring.shares3 fullShare 0) c (blk4 X c) ∗ curPts (Ring.shares3 fullShare 1) c (blk4 X c) ∗ curPts (Ring.shares3 fullShare 2) c (blk4 X c) ∗ semVal (recvCell 8 c) 0 ∗ semVal (recvCell 9 c) 0 ∗ semVal (sendCell 8 c) 0 ∗ semVal (sendCell 9 c) 0 ∗ semVal (sendCell 10 c) 0 ∗ owing c [.inr 11, .inr 12, .inr 13]) -∗ wp frame (wpE (defs₀ (F := F)) 𝒱₀ (c : Thread nD τ) none) Set.univ (k ⟨⟩) Q)
          -∗ wp frame (wpE (defs₀ (F := F)) 𝒱₀ (c : Thread nD τ) none) Set.univ (k0_part39 xM (Memref.isWhole_whole _) oM (Memref.isWhole_whole _) curM (Memref.isWhole_whole _) rcvM (Memref.isWhole_whole _) cc0_scratch2 cc0_scratch3 v1553 v1562 >>= k) Q) := by
  rw [k0_part39_eq_skeleton]; unfold k0_part39_skel
  simp only [semSignalWord, semWaitWord, Prog.lift, Prog.bind_op, Prog.bind_ret, Prog.pure_eq_ret, bind_assoc, pure_bind]
  iintro ⟨Ho, #Hlev, HT8, HR8, HT9, HR9, HT10⟩ Hk
  iapply (wait_send_step X K c 8 (Ring.shares3 fullShare 0) rfl (blk4 X c) rfl [.inr 11, .inr 12, .inr 13] (by decide)) $$ [HT8 Ho]
  · isplitl [HT8]; · iexact HT8
    isplitl [Ho]; · iexact Ho
    iexact Hlev
  iintro ⟨HzS8, Hc0, Ho⟩
  iapply (wait_recv_step X K c 8 (blk4 X (tgt 8 c)) rfl [.inr 11, .inr 12, .inr 13] (by decide)) $$ [HR8 Ho]
  · isplitl [HR8]; · iexact HR8
    isplitl [Ho]; · iexact Ho
    iexact Hlev
  iintro ⟨HzR8, HP8, Ho⟩
  iapply (wait_send_step X K c 9 (Ring.shares3 fullShare 1) rfl (blk4 X c) rfl [.inr 11, .inr 12, .inr 13] (by decide)) $$ [HT9 Ho]
  · isplitl [HT9]; · iexact HT9
    isplitl [Ho]; · iexact Ho
    iexact Hlev
  iintro ⟨HzS9, Hc1, Ho⟩
  iapply (wait_recv_step X K c 9 (blk4 X (tgt 9 c)) rfl [.inr 11, .inr 12, .inr 13] (by decide)) $$ [HR9 Ho]
  · isplitl [HR9]; · iexact HR9
    isplitl [Ho]; · iexact Ho
    iexact Hlev
  iintro ⟨HzR9, HP9, Ho⟩
  iapply (wait_send_step X K c 10 (Ring.shares3 fullShare 2) rfl (blk4 X c) rfl [.inr 11, .inr 12, .inr 13] (by decide)) $$ [HT10 Ho]
  · isplitl [HT10]; · iexact HT10
    isplitl [Ho]; · iexact Ho
    iexact Hlev
  iintro ⟨HzS10, Hc2, Ho⟩
  iapply Hk
  isplitl [HP8]; · iexact HP8
  isplitl [HP9]; · iexact HP9
  isplitl [Hc0]; · iexact Hc0
  isplitl [Hc1]; · iexact Hc1
  isplitl [Hc2]; · iexact Hc2
  isplitl [HzR8]; · iexact HzR8
  isplitl [HzR9]; · iexact HzR9
  isplitl [HzS8]; · iexact HzS8
  isplitl [HzS9]; · iexact HzS9
  isplitl [HzS10]; · iexact HzS10
  iexact Ho

set_option maxHeartbeats 1000000 in
/-- Part 40 of the body: loads the working block, loads landing slots. -/
theorem part40_step (v3 : BitVec 32) (v1571 : BitVec 32)
    {k : (Σ' (v1612 : IVec S256x128 32) (v1615 : FVec F S256x128 .bf16) (v1619 : FVec F S256x128 .bf16) (v1632 : FVec F S256x128 .bf16) (v1634 : IVec S256x128 32) (v1636 : IVec S256x128 32), BitVec 32) → Prog (TpuEff nD τ sig (Elt F) Λ₀ .tc) α} {Q : α → sProp 𝕄} :
    iprop(owing c [.inr 11, .inr 12, .inr 13] ∗ levAts L lv ∗ curPts (Ring.shares3 fullShare 0) c (blk4 X c) ∗ curPts (Ring.shares3 fullShare 1) c (blk4 X c) ∗ curPts (Ring.shares3 fullShare 2) c (blk4 X c) ∗ Due2 X K 10 c ∗ slotPts 8 c (blk4 X (tgt 8 c)) ∗ slotPts 9 c (blk4 X (tgt 9 c)))
      ⊢ iprop(((slotPts 8 c (blk4 X (tgt 8 c)) ∗ slotPts 9 c (blk4 X (tgt 9 c)) ∗ slotPts 10 c (blk4 X (tgt 10 c)) ∗ curPts fullShare c (blk4 X c) ∗ semVal (recvCell 10 c) 0 ∗ owing c [.inr 11, .inr 12, .inr 13]) -∗ wp frame (wpE (defs₀ (F := F)) 𝒱₀ (c : Thread nD τ) none) Set.univ (k ⟨k0_pay121 v3, k0_pay122 (up (blk4 X (tgt 8 c))), k0_pay123 (up (blk4 X (tgt 10 c))), k0_pay124 v3 (blk4 X c) (up (blk4 X (tgt 9 c))), k0_pay125 v3, k0_pay126 v3, 0#32⟩) Q)
          -∗ wp frame (wpE (defs₀ (F := F)) 𝒱₀ (c : Thread nD τ) none) Set.univ (k0_part40 xM (Memref.isWhole_whole _) oM (Memref.isWhole_whole _) curM (Memref.isWhole_whole _) rcvM (Memref.isWhole_whole _) cc0_scratch2 cc0_scratch3 v3 v1571 >>= k) Q) := by
  rw [k0_part40_eq_skeleton]; unfold k0_part40_skel
  simp only [semSignalWord, semWaitWord, Prog.lift, Prog.bind_op, Prog.bind_ret, Prog.pure_eq_ret, bind_assoc, pure_bind]
  iintro ⟨Ho, #Hlev, Hc0, Hc1, Hc2, HR10, HP8, HP9⟩ Hk
  iapply (wait_recv_step X K c 10 (blk4 X (tgt 10 c)) rfl [.inr 11, .inr 12, .inr 13] (by decide)) $$ [HR10 Ho]
  · isplitl [HR10]; · iexact HR10
    isplitl [Ho]; · iexact Ho
    iexact Hlev
  iintro ⟨HzR10, HP10, Ho⟩
  ihave Hcur := (cur_thirds c (blk4 X c)).2 $$ [Hc0 Hc1 Hc2]
  · isplitl [Hc0]; · iexact Hc0
    isplitl [Hc1]; · iexact Hc1
    iexact Hc2
  iapply (load_cur c fullShare (blk4 X c)) $$ Hcur; iintro Hcur
  iapply (load_slot c 8 (blk4 X (tgt 8 c))) $$ HP8; iintro HP8
  iapply (load_slot c 9 (blk4 X (tgt 9 c))) $$ HP9; iintro HP9
  iapply (load_slot c 10 (blk4 X (tgt 10 c))) $$ HP10; iintro HP10
  iapply Hk
  isplitl [HP8]; · iexact HP8
  isplitl [HP9]; · iexact HP9
  isplitl [HP10]; · iexact HP10
  isplitl [Hcur]; · iexact Hcur
  isplitl [HzR10]; · iexact HzR10
  iexact Ho

set_option maxHeartbeats 1000000 in
/-- Part 41 of the body: loads the working block, stores it, starts transfers. -/
theorem part41_step (v2 : BitVec 32) (v1612 : IVec S256x128 32) (v1615 : FVec F S256x128 .bf16) (v1619 : FVec F S256x128 .bf16) (v1632 : FVec F S256x128 .bf16) (v1634 : IVec S256x128 32) (v1636 : IVec S256x128 32) (c0_i32_674 : BitVec 32) (hB : k0_pay127 v1612 v1615 v1619 v1632 v1634 v1636 c0_i32_674 = blk5 X c)
    {k : (Σ' (v1664 : BitVec 32), BitVec 32) → Prog (TpuEff nD τ sig (Elt F) Λ₀ .tc) α} {Q : α → sProp 𝕄} :
    iprop(owing c [.inr 11, .inr 12, .inr 13] ∗ curPts fullShare c (blk4 X c) ∗ Kit X K 11 c ∗ slotAny (F := F) 11 (tgt 11 c))
      ⊢ iprop(((Due2 X K 11 c ∗ Sent X K 11 c ∗ curPts (Ring.shares3 fullShare 1) c (blk5 X c) ∗ curPts (Ring.shares3 fullShare 2) c (blk5 X c) ∗ owing c [.inr 12, .inr 13]) -∗ wp frame (wpE (defs₀ (F := F)) 𝒱₀ (c : Thread nD τ) none) Set.univ (k ⟨(Scalar.xori v2 1#32), (Scalar.xori v2 2#32)⟩) Q)
          -∗ wp frame (wpE (defs₀ (F := F)) 𝒱₀ (c : Thread nD τ) none) Set.univ (k0_part41 xM (Memref.isWhole_whole _) oM (Memref.isWhole_whole _) curM (Memref.isWhole_whole _) rcvM (Memref.isWhole_whole _) cc0_scratch2 cc0_scratch3 c v2 v1612 v1615 v1619 v1632 v1634 v1636 c0_i32_674 >>= k) Q) := by
  rw [k0_part41_eq_skeleton]; unfold k0_part41_skel
  simp only [semSignalWord, semWaitWord, Prog.lift, Prog.bind_op, Prog.bind_ret, Prog.pure_eq_ret, bind_assoc, pure_bind]
  iintro ⟨Ho, Hcur, HK11, HL11⟩ Hk
  iapply (load_cur c fullShare (blk4 X c)) $$ Hcur; iintro Hcur
  rw [hB]
  iapply (store_cur c (blk4 X c) (blk5 X c)) $$ Hcur; iintro Hcur
  icases (cur_thirds c (blk5 X c)).1 $$ Hcur with ⟨Hc0, Hc1, Hc2⟩
  iapply (send_step X K c 11 _ (dev11_eq c) [.inr 12, .inr 13]) $$ [HK11 Hc0 HL11 Ho]
  · isplitl [HK11]; · iexact HK11
    isplitl [Hc0]; · iexact Hc0
    isplitl [HL11]; · iexact HL11
    iexact Ho
  iintro ⟨HT11, HR11, Ho⟩
  iapply Hk
  isplitl [HR11]; · iexact HR11
  isplitl [HT11]; · iexact HT11
  isplitl [Hc1]; · iexact Hc1
  isplitl [Hc2]; · iexact Hc2
  iexact Ho

set_option maxHeartbeats 1000000 in
/-- Part 42 of the body: starts transfers, waits for them. -/
theorem part42_step (v2 : BitVec 32) (v1664 : BitVec 32) (v1673 : BitVec 32)
    {k : (BitVec 32) → Prog (TpuEff nD τ sig (Elt F) Λ₀ .tc) α} {Q : α → sProp 𝕄} :
    iprop(owing c [.inr 12, .inr 13] ∗ levAts L lv ∗ curPts (Ring.shares3 fullShare 1) c (blk5 X c) ∗ curPts (Ring.shares3 fullShare 2) c (blk5 X c) ∗ Kit X K 12 c ∗ slotAny (F := F) 12 (tgt 12 c) ∗ Kit X K 13 c ∗ slotAny (F := F) 13 (tgt 13 c) ∗ Sent X K 11 c ∗ Due2 X K 11 c)
      ⊢ iprop(((slotPts 11 c (blk5 X (tgt 11 c)) ∗ Due2 X K 12 c ∗ Due2 X K 13 c ∗ Sent X K 12 c ∗ Sent X K 13 c ∗ curPts (Ring.shares3 fullShare 0) c (blk5 X c) ∗ semVal (recvCell 11 c) 0 ∗ semVal (sendCell 11 c) 0 ∗ owing c []) -∗ wp frame (wpE (defs₀ (F := F)) 𝒱₀ (c : Thread nD τ) none) Set.univ (k ((Scalar.xori v2 3#32))) Q)
          -∗ wp frame (wpE (defs₀ (F := F)) 𝒱₀ (c : Thread nD τ) none) Set.univ (k0_part42 xM (Memref.isWhole_whole _) oM (Memref.isWhole_whole _) curM (Memref.isWhole_whole _) rcvM (Memref.isWhole_whole _) cc0_scratch2 cc0_scratch3 c v2 v1664 v1673 >>= k) Q) := by
  rw [k0_part42_eq_skeleton]; unfold k0_part42_skel
  simp only [semSignalWord, semWaitWord, Prog.lift, Prog.bind_op, Prog.bind_ret, Prog.pure_eq_ret, bind_assoc, pure_bind]
  iintro ⟨Ho, #Hlev, Hc1, Hc2, HK12, HL12, HK13, HL13, HT11, HR11⟩ Hk
  iapply (send_step X K c 12 _ (dev12_eq c) [.inr 13]) $$ [HK12 Hc1 HL12 Ho]
  · isplitl [HK12]; · iexact HK12
    isplitl [Hc1]; · iexact Hc1
    isplitl [HL12]; · iexact HL12
    iexact Ho
  iintro ⟨HT12, HR12, Ho⟩
  iapply (send_step X K c 13 _ (dev13_eq c) []) $$ [HK13 Hc2 HL13 Ho]
  · isplitl [HK13]; · iexact HK13
    isplitl [Hc2]; · iexact Hc2
    isplitl [HL13]; · iexact HL13
    iexact Ho
  iintro ⟨HT13, HR13, Ho⟩
  iapply (wait_send_step X K c 11 (Ring.shares3 fullShare 0) rfl (blk5 X c) rfl [] (by decide)) $$ [HT11 Ho]
  · isplitl [HT11]; · iexact HT11
    isplitl [Ho]; · iexact Ho
    iexact Hlev
  iintro ⟨HzS11, Hc0, Ho⟩
  iapply (wait_recv_step X K c 11 (blk5 X (tgt 11 c)) rfl [] (by decide)) $$ [HR11 Ho]
  · isplitl [HR11]; · iexact HR11
    isplitl [Ho]; · iexact Ho
    iexact Hlev
  iintro ⟨HzR11, HP11, Ho⟩
  iapply Hk
  isplitl [HP11]; · iexact HP11
  isplitl [HR12]; · iexact HR12
  isplitl [HR13]; · iexact HR13
  isplitl [HT12]; · iexact HT12
  isplitl [HT13]; · iexact HT13
  isplitl [Hc0]; · iexact Hc0
  isplitl [HzR11]; · iexact HzR11
  isplitl [HzS11]; · iexact HzS11
  iexact Ho

set_option maxHeartbeats 1000000 in
/-- Part 43 of the body: waits for them, loads the working block, loads landing slots. -/
theorem part43_step (v3 : BitVec 32) (v1673 : BitVec 32) (v1682 : BitVec 32)
    {k : (Σ' (v1723 : IVec S256x128 32) (v1724 : Vec F S256x128 .bf16), FVec F S256x128 .bf16) → Prog (TpuEff nD τ sig (Elt F) Λ₀ .tc) α} {Q : α → sProp 𝕄} :
    iprop(owing c [] ∗ levAts L lv ∗ curPts (Ring.shares3 fullShare 0) c (blk5 X c) ∗ Sent X K 12 c ∗ Due2 X K 12 c ∗ Sent X K 13 c ∗ Due2 X K 13 c ∗ slotPts 11 c (blk5 X (tgt 11 c)))
      ⊢ iprop(((slotPts 11 c (blk5 X (tgt 11 c)) ∗ slotPts 12 c (blk5 X (tgt 12 c)) ∗ slotPts 13 c (blk5 X (tgt 13 c)) ∗ curPts fullShare c (blk5 X c) ∗ semVal (recvCell 12 c) 0 ∗ semVal (recvCell 13 c) 0 ∗ semVal (sendCell 12 c) 0 ∗ semVal (sendCell 13 c) 0 ∗ owing c []) -∗ wp frame (wpE (defs₀ (F := F)) 𝒱₀ (c : Thread nD τ) none) Set.univ (k ⟨k0_pay128 v3, (blk5 X c), k0_pay129 (up (blk5 X (tgt 11 c)))⟩) Q)
          -∗ wp frame (wpE (defs₀ (F := F)) 𝒱₀ (c : Thread nD τ) none) Set.univ (k0_part43 xM (Memref.isWhole_whole _) oM (Memref.isWhole_whole _) curM (Memref.isWhole_whole _) rcvM (Memref.isWhole_whole _) cc0_scratch2 cc0_scratch3 v3 v1673 v1682 >>= k) Q) := by
  rw [k0_part43_eq_skeleton]; unfold k0_part43_skel
  simp only [semSignalWord, semWaitWord, Prog.lift, Prog.bind_op, Prog.bind_ret, Prog.pure_eq_ret, bind_assoc, pure_bind]
  iintro ⟨Ho, #Hlev, Hc0, HT12, HR12, HT13, HR13, HP11⟩ Hk
  iapply (wait_send_step X K c 12 (Ring.shares3 fullShare 1) rfl (blk5 X c) rfl [] (by decide)) $$ [HT12 Ho]
  · isplitl [HT12]; · iexact HT12
    isplitl [Ho]; · iexact Ho
    iexact Hlev
  iintro ⟨HzS12, Hc1, Ho⟩
  iapply (wait_recv_step X K c 12 (blk5 X (tgt 12 c)) rfl [] (by decide)) $$ [HR12 Ho]
  · isplitl [HR12]; · iexact HR12
    isplitl [Ho]; · iexact Ho
    iexact Hlev
  iintro ⟨HzR12, HP12, Ho⟩
  iapply (wait_send_step X K c 13 (Ring.shares3 fullShare 2) rfl (blk5 X c) rfl [] (by decide)) $$ [HT13 Ho]
  · isplitl [HT13]; · iexact HT13
    isplitl [Ho]; · iexact Ho
    iexact Hlev
  iintro ⟨HzS13, Hc2, Ho⟩
  iapply (wait_recv_step X K c 13 (blk5 X (tgt 13 c)) rfl [] (by decide)) $$ [HR13 Ho]
  · isplitl [HR13]; · iexact HR13
    isplitl [Ho]; · iexact Ho
    iexact Hlev
  iintro ⟨HzR13, HP13, Ho⟩
  ihave Hcur := (cur_thirds c (blk5 X c)).2 $$ [Hc0 Hc1 Hc2]
  · isplitl [Hc0]; · iexact Hc0
    isplitl [Hc1]; · iexact Hc1
    iexact Hc2
  iapply (load_cur c fullShare (blk5 X c)) $$ Hcur; iintro Hcur
  iapply (load_slot c 11 (blk5 X (tgt 11 c))) $$ HP11; iintro HP11
  iapply Hk
  isplitl [HP11]; · iexact HP11
  isplitl [HP12]; · iexact HP12
  isplitl [HP13]; · iexact HP13
  isplitl [Hcur]; · iexact Hcur
  isplitl [HzR12]; · iexact HzR12
  isplitl [HzR13]; · iexact HzR13
  isplitl [HzS12]; · iexact HzS12
  isplitl [HzS13]; · iexact HzS13
  iexact Ho

set_option maxHeartbeats 1000000 in
/-- Part 44 of the body: loads landing slots. -/
theorem part44_step (v1723 : IVec S256x128 32) (v1724 : Vec F S256x128 .bf16) (v1726 : FVec F S256x128 .bf16)
    {k : (Σ' (v1743 : FVec F S256x128 .bf16) (v1758 : FVec F S256x128 .bf16), IVec S256x128 1) → Prog (TpuEff nD τ sig (Elt F) Λ₀ .tc) α} {Q : α → sProp 𝕄} :
    iprop(slotPts 12 c (blk5 X (tgt 12 c)) ∗ slotPts 13 c (blk5 X (tgt 13 c)))
      ⊢ iprop(((slotPts 12 c (blk5 X (tgt 12 c)) ∗ slotPts 13 c (blk5 X (tgt 13 c))) -∗ wp frame (wpE (defs₀ (F := F)) 𝒱₀ (c : Thread nD τ) none) Set.univ (k ⟨k0_pay130 v1723 v1724 (up (blk5 X (tgt 12 c))), k0_pay131 v1723 v1726 (up (blk5 X (tgt 13 c))), k0_pay132 v1723⟩) Q)
          -∗ wp frame (wpE (defs₀ (F := F)) 𝒱₀ (c : Thread nD τ) none) Set.univ (k0_part44 xM (Memref.isWhole_whole _) oM (Memref.isWhole_whole _) curM (Memref.isWhole_whole _) rcvM (Memref.isWhole_whole _) cc0_scratch2 cc0_scratch3 v1723 v1724 v1726 >>= k) Q) := by
  rw [k0_part44_eq_skeleton]; unfold k0_part44_skel
  simp only [semSignalWord, semWaitWord, Prog.lift, Prog.bind_op, Prog.bind_ret, Prog.pure_eq_ret, bind_assoc, pure_bind]
  iintro ⟨HP12, HP13⟩ Hk
  iapply (load_slot c 12 (blk5 X (tgt 12 c))) $$ HP12; iintro HP12
  iapply (load_slot c 13 (blk5 X (tgt 13 c))) $$ HP13; iintro HP13
  iapply Hk
  isplitl [HP12]; · iexact HP12
  iexact HP13

set_option maxHeartbeats 1000000 in
/-- Part 45 of the body: loads the working block, stores it. -/
theorem part45_step (v3 : BitVec 32) (v1743 : FVec F S256x128 .bf16) (v1758 : FVec F S256x128 .bf16) (v1767 : IVec S256x128 1) (hB : k0_pay133 v1743 v1758 v1767 = mid6 X c)
    {k : (Σ' (v1814 : FVec F S2x64x128 .bf16), FVec F S2x64x128 .bf16) → Prog (TpuEff nD τ sig (Elt F) Λ₀ .tc) α} {Q : α → sProp 𝕄} :
    iprop(curPts fullShare c (blk5 X c))
      ⊢ iprop(((curPts fullShare c (mid6 X c)) -∗ wp frame (wpE (defs₀ (F := F)) 𝒱₀ (c : Thread nD τ) none) Set.univ (k ⟨k0_pay140 v3 (mid6 X c), k0_pay141 v3 (mid6 X c)⟩) Q)
          -∗ wp frame (wpE (defs₀ (F := F)) 𝒱₀ (c : Thread nD τ) none) Set.univ (k0_part45 xM (Memref.isWhole_whole _) oM (Memref.isWhole_whole _) curM (Memref.isWhole_whole _) rcvM (Memref.isWhole_whole _) cc0_scratch2 cc0_scratch3 v3 v1743 v1758 v1767 >>= k) Q) := by
  rw [k0_part45_eq_skeleton]; unfold k0_part45_skel
  simp only [semSignalWord, semWaitWord, Prog.lift, Prog.bind_op, Prog.bind_ret, Prog.pure_eq_ret, bind_assoc, pure_bind]
  iintro Hcur Hk
  iapply (load_cur c fullShare (blk5 X c)) $$ Hcur; iintro Hcur
  rw [hB]
  iapply (store_cur c (blk5 X c) (mid6 X c)) $$ Hcur; iintro Hcur
  iapply (load_cur c fullShare (mid6 X c)) $$ Hcur; iintro Hcur
  iapply Hk
  iexact Hcur

end Parts

end Cert.Sort

end
-- ==== Proof.Body.lean ====
/-
# The whole body

The parts in turn: from the launch's ghost state, the scratch buffers and the two windows, to the windows' final
contents and every semaphore at zero.
-/
module

public import proofs.«01_k».proof.Proof.Parts

@[expose] public section

noncomputable section

namespace Cert.Sort

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : Dev nD → FVec F S256x128 .bf16) (K : Dev nD × CI → ℕ)

omit [FloatOps F] in
theorem sep14 (Φ : Fin 14 → sProp 𝕄) : bigSepL [0, 1, 2, 3, 4, 5, 6, 7, 8, 9, 10, 11, 12, 13] Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13) := rfl
omit [FloatOps F] in
theorem sep7 (Φ : Fin 7 → sProp 𝕄) : bigSepL [0, 1, 2, 3, 4, 5, 6] Φ = iprop(Φ 0 ∗ Φ 1 ∗ Φ 2 ∗ Φ 3 ∗ Φ 4 ∗ Φ 5 ∗ Φ 6) := rfl

omit [FloatOps F] in
/-- The landing slots a signal to the `j`-th partner hands over are the sender's own. -/
theorem barPay_own (c : Dev nD) (j : Fin 7) :
    (bigSepL (slotsOf j) fun s => slotAny (F := F) s c) ⊢ (barPay (F := F) (nbr j c) j : sProp 𝕄) := by
  unfold barPay; rw [nbr_nbr]

omit [FloatOps F] in
/-- The barrier round's landing slots, one for each transfer to come. -/
theorem land_split (c : Dev nD) :
    (bigSepL [0, 1, 2, 3, 4, 5, 6] fun j => barPay (F := F) c j) ⊢ (bigSepL [0, 1, 2, 3, 4, 5, 6, 7, 8, 9, 10, 11, 12, 13] fun s => slotAny (F := F) s (tgt s c) : sProp 𝕄) := by
  show iprop((slotAny (F := F) 0 (tgt 0 c) ∗ slotAny 1 (tgt 1 c) ∗ slotAny 7 (tgt 7 c) ∗ slotAny 11 (tgt 11 c)) ∗ (slotAny 2 (tgt 2 c) ∗ slotAny 4 (tgt 4 c) ∗ slotAny 12 (tgt 12 c))
      ∗ (slotAny 3 (tgt 3 c) ∗ slotAny 13 (tgt 13 c)) ∗ (slotAny 5 (tgt 5 c) ∗ slotAny 8 (tgt 8 c)) ∗ slotAny 6 (tgt 6 c) ∗ slotAny 9 (tgt 9 c) ∗ slotAny 10 (tgt 10 c)) ⊢ _
  rw [sep14]
  iintro ⟨⟨H0, H1, H7, H11⟩, ⟨H2, H4, H12⟩, ⟨H3, H13⟩, ⟨H5, H8⟩, H6, H9, H10⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

abbrev xPts (c : Dev nD) (A : FVec F S256x128 .bf16) : sProp 𝕄 := ((c : Thread nD τ).loc cc0_stg0_0) ↦{fullShare} (A : Buf (Elt F) ((c : Thread nD τ).loc cc0_stg0_0))
abbrev oPts (c : Dev nD) (A : FVec F S256x128 .f32) : sProp 𝕄 := ((c : Thread nD τ).loc cc0_stg1_0) ↦{fullShare} (A : Buf (Elt F) ((c : Thread nD τ).loc cc0_stg1_0))

omit [FloatOps F] in
theorem read_x (f : FVec F S256x128 .bf16) : (xM : Memref sig .tc .vmem S256x128 .bf16).view.readAt (Elt F) r0.toLoadRect f = f :=
  Memref.readAt_unit_zero (Elt F) cc0_stg0_0 hz _ f
omit [FloatOps F] in
theorem write_out (f w : FVec F S256x128 .f32) :
    ((oM : Memref sig .tc .vmem S256x128 .f32).access r0 : View sig .tc _ _ _).write (Elt F) f w Finset.univ = w :=
  Memref.write_access_unit_zero_univ (Elt F) cc0_stg1_0 hz _ f w

section Run

variable {α : Type} (c : Dev nD)

/-- Part 1 of the body: the device's number and the load of its block. -/
theorem part1_step (A : FVec F S256x128 .bf16)
    {k : (Σ' (d0 : Dev nD) (v2 : BitVec 32) (v3 : BitVec 32) (v24 : FVec F S256x128 .bf16) (v31 : IVec S256x128 1) (v37 : IVec S256x128 1) (v38 : FVec F S256x128 .bf16), FVec F S256x128 .bf16) → Prog (TpuEff nD τ sig (Elt F) Λ₀ .tc) α} {Q : α → sProp 𝕄} :
    xPts c A
      ⊢ iprop((xPts c A -∗ wp frame (wpE (defs₀ (F := F)) 𝒱₀ (c : Thread nD τ) none) Set.univ (k ⟨c, Scalar.remsi (Scalar.divsi (Dev.word c) 1#32) 16#32, rowWord c, k0_pay3 c A, k0_pay5 c, k0_pay6 c, k0_pay7 c A, k0_pay8 c A⟩) Q)
          -∗ wp frame (wpE (defs₀ (F := F)) 𝒱₀ (c : Thread nD τ) none) Set.univ (k0_part1 xM (Memref.isWhole_whole _) oM (Memref.isWhole_whole _) curM (Memref.isWhole_whole _) rcvM (Memref.isWhole_whole _) cc0_scratch2 cc0_scratch3 >>= k) Q) := by
  rw [k0_part1_eq_skeleton]; unfold k0_part1_skel
  simp only [Prog.lift, Prog.bind_op, Prog.bind_ret, Prog.pure_eq_ret, bind_assoc, pure_bind, wp_deviceId]
  iintro H Hk
  iapply (wp_load (defs := defs₀ (F := F)) 𝒱₀ (c : Thread nD τ) none Set.univ (m := xM) (r := r0.toLoadRect) (Finset.subset_univ _)) $$ H
  iintro H
  rw [read_x]
  iapply Hk; iexact H

theorem part2_step (v3 : BitVec 32) (v24 : FVec F S256x128 .bf16) (v31 : IVec S256x128 1) (v37 : IVec S256x128 1) (v38 : FVec F S256x128 .bf16) (v39 : FVec F S256x128 .bf16)
    {k : (Σ' (v81 : FVec F S256x128 .bf16) (v84 : IVec S256x128 32), BitVec 32) → Prog (TpuEff nD τ sig (Elt F) Λ₀ .tc) α} {Q : α → sProp 𝕄} :
    wp frame (wpE (defs₀ (F := F)) 𝒱₀ (c : Thread nD τ) none) Set.univ (k ⟨k0_pay9 v3 v24 v31 v37 v38 v39, k0_pay10 v3, 2#32⟩) Q ⊢ wp frame (wpE (defs₀ (F := F)) 𝒱₀ (c : Thread nD τ) none) Set.univ (k0_part2 xM (Memref.isWhole_whole _) oM (Memref.isWhole_whole _) curM (Memref.isWhole_whole _) rcvM (Memref.isWhole_whole _) cc0_scratch2 cc0_scratch3 v3 v24 v31 v37 v38 v39 >>= k) Q := by
  rw [k0_part2_eq_skeleton]; unfold k0_part2_skel
  simp only [Prog.lift, Prog.bind_op, Prog.bind_ret, Prog.pure_eq_ret, bind_assoc, pure_bind]
  exact BI.Entails.refl _

theorem part3_step (v3 : BitVec 32) (v81 : FVec F S256x128 .bf16) (v84 : IVec S256x128 32) (c2_i32_21 : BitVec 32)
    {k : (Σ' (v119 : FVec F S256x128 .bf16) (v126 : IVec S256x128 1), IVec S256x128 32) → Prog (TpuEff nD τ sig (Elt F) Λ₀ .tc) α} {Q : α → sProp 𝕄} :
    wp frame (wpE (defs₀ (F := F)) 𝒱₀ (c : Thread nD τ) none) Set.univ (k ⟨k0_pay11 v3 v81 v84 c2_i32_21, k0_pay13 v3, k0_pay14 v3⟩) Q ⊢ wp frame (wpE (defs₀ (F := F)) 𝒱₀ (c : Thread nD τ) none) Set.univ (k0_part3 xM (Memref.isWhole_whole _) oM (Memref.isWhole_whole _) curM (Memref.isWhole_whole _) rcvM (Memref.isWhole_whole _) cc0_scratch2 cc0_scratch3 v3 v81 v84 c2_i32_21 >>= k) Q := by
  rw [k0_part3_eq_skeleton]; unfold k0_part3_skel
  simp only [Prog.lift, Prog.bind_op, Prog.bind_ret, Prog.pure_eq_ret, bind_assoc, pure_bind]
  exact BI.Entails.refl _

theorem part4_step (v3 : BitVec 32) (v119 : FVec F S256x128 .bf16) (v126 : IVec S256x128 1) (v128 : IVec S256x128 32)
    {k : (Σ' (v157 : FVec F S256x128 .bf16) (v164 : IVec S256x128 1) (v170 : IVec S256x128 1), FVec F S256x128 .bf16) → Prog (TpuEff nD τ sig (Elt F) Λ₀ .tc) α} {Q : α → sProp 𝕄} :
    wp frame (wpE (defs₀ (F := F)) 𝒱₀ (c : Thread nD τ) none) Set.univ (k ⟨k0_pay15 v3 v119 v126 v128, k0_pay17 v3, k0_pay18 v3, k0_pay19 v3 v119 v126 v128⟩) Q ⊢ wp frame (wpE (defs₀ (F := F)) 𝒱₀ (c : Thread nD τ) none) Set.univ (k0_part4 xM (Memref.isWhole_whole _) oM (Memref.isWhole_whole _) curM (Memref.isWhole_whole _) rcvM (Memref.isWhole_whole _) cc0_scratch2 cc0_scratch3 v3 v119 v126 v128 >>= k) Q := by
  rw [k0_part4_eq_skeleton]; unfold k0_part4_skel
  simp only [Prog.lift, Prog.bind_op, Prog.bind_ret, Prog.pure_eq_ret, bind_assoc, pure_bind]
  exact BI.Entails.refl _

theorem part5_step (v3 : BitVec 32) (v157 : FVec F S256x128 .bf16) (v164 : IVec S256x128 1) (v170 : IVec S256x128 1) (v171 : FVec F S256x128 .bf16)
    {k : (Σ' (v217 : FVec F S256x128 .bf16), IVec S256x128 32) → Prog (TpuEff nD τ sig (Elt F) Λ₀ .tc) α} {Q : α → sProp 𝕄} :
    wp frame (wpE (defs₀ (F := F)) 𝒱₀ (c : Thread nD τ) none) Set.univ (k ⟨k0_pay20 v3 v157 v164 v170 v171, k0_pay21 v3⟩) Q ⊢ wp frame (wpE (defs₀ (F := F)) 𝒱₀ (c : Thread nD τ) none) Set.univ (k0_part5 xM (Memref.isWhole_whole _) oM (Memref.isWhole_whole _) curM (Memref.isWhole_whole _) rcvM (Memref.isWhole_whole _) cc0_scratch2 cc0_scratch3 v3 v157 v164 v170 v171 >>= k) Q := by
  rw [k0_part5_eq_skeleton]; unfold k0_part5_skel
  simp only [Prog.lift, Prog.bind_op, Prog.bind_ret, Prog.pure_eq_ret, bind_assoc, pure_bind]
  exact BI.Entails.refl _

theorem part6_step (v3 : BitVec 32) (v217 : FVec F S256x128 .bf16) (v220 : IVec S256x128 32)
    {k : (Σ' (v255 : FVec F S256x128 .bf16) (v258 : IVec S256x128 32) (v262 : IVec S256x128 1), IVec S256x128 32) → Prog (TpuEff nD τ sig (Elt F) Λ₀ .tc) α} {Q : α → sProp 𝕄} :
    wp frame (wpE (defs₀ (F := F)) 𝒱₀ (c : Thread nD τ) none) Set.univ (k ⟨k0_pay22 v3 v217 v220, k0_pay23 v3, k0_pay24 v3, k0_pay25⟩) Q ⊢ wp frame (wpE (defs₀ (F := F)) 𝒱₀ (c : Thread nD τ) none) Set.univ (k0_part6 xM (Memref.isWhole_whole _) oM (Memref.isWhole_whole _) curM (Memref.isWhole_whole _) rcvM (Memref.isWhole_whole _) cc0_scratch2 cc0_scratch3 v3 v217 v220 >>= k) Q := by
  rw [k0_part6_eq_skeleton]; unfold k0_part6_skel
  simp only [Prog.lift, Prog.bind_op, Prog.bind_ret, Prog.pure_eq_ret, bind_assoc, pure_bind]
  exact BI.Entails.refl _

theorem part7_step (v3 : BitVec 32) (v255 : FVec F S256x128 .bf16) (v258 : IVec S256x128 32) (v262 : IVec S256x128 1) (v263 : IVec S256x128 32)
    {k : (Σ' (v299 : FVec F S4x32x128 .bf16) (v300 : FVec F S4x32x128 .bf16), IVec S4x32x128 1) → Prog (TpuEff nD τ sig (Elt F) Λ₀ .tc) α} {Q : α → sProp 𝕄} :
    wp frame (wpE (defs₀ (F := F)) 𝒱₀ (c : Thread nD τ) none) Set.univ (k ⟨k0_pay29 v3 v255 v258 v262 v263, k0_pay30 v3 v255 v258 v262 v263, k0_pay31 v3⟩) Q ⊢ wp frame (wpE (defs₀ (F := F)) 𝒱₀ (c : Thread nD τ) none) Set.univ (k0_part7 xM (Memref.isWhole_whole _) oM (Memref.isWhole_whole _) curM (Memref.isWhole_whole _) rcvM (Memref.isWhole_whole _) cc0_scratch2 cc0_scratch3 v3 v255 v258 v262 v263 >>= k) Q := by
  rw [k0_part7_eq_skeleton]; unfold k0_part7_skel
  simp only [Prog.lift, Prog.bind_op, Prog.bind_ret, Prog.pure_eq_ret, bind_assoc, pure_bind]
  exact BI.Entails.refl _

theorem part8_step (v3 : BitVec 32) (v299 : FVec F S4x32x128 .bf16) (v300 : FVec F S4x32x128 .bf16) (v309 : IVec S4x32x128 1)
    {k : (Σ' (v356 : FVec F S256x128 .bf16), IVec S256x128 32) → Prog (TpuEff nD τ sig (Elt F) Λ₀ .tc) α} {Q : α → sProp 𝕄} :
    wp frame (wpE (defs₀ (F := F)) 𝒱₀ (c : Thread nD τ) none) Set.univ (k ⟨k0_pay32 v3 v299 v300 v309, k0_pay33 v3⟩) Q ⊢ wp frame (wpE (defs₀ (F := F)) 𝒱₀ (c : Thread nD τ) none) Set.univ (k0_part8 xM (Memref.isWhole_whole _) oM (Memref.isWhole_whole _) curM (Memref.isWhole_whole _) rcvM (Memref.isWhole_whole _) cc0_scratch2 cc0_scratch3 v3 v299 v300 v309 >>= k) Q := by
  rw [k0_part8_eq_skeleton]; unfold k0_part8_skel
  simp only [Prog.lift, Prog.bind_op, Prog.bind_ret, Prog.pure_eq_ret, bind_assoc, pure_bind]
  exact BI.Entails.refl _

theorem part9_step (v3 : BitVec 32) (v356 : FVec F S256x128 .bf16) (v359 : IVec S256x128 32)
    {k : (Σ' (v394 : FVec F S256x128 .bf16) (v397 : IVec S256x128 32) (v401 : IVec S256x128 1), IVec S256x128 32) → Prog (TpuEff nD τ sig (Elt F) Λ₀ .tc) α} {Q : α → sProp 𝕄} :
    wp frame (wpE (defs₀ (F := F)) 𝒱₀ (c : Thread nD τ) none) Set.univ (k ⟨k0_pay34 v3 v356 v359, k0_pay35 v3, k0_pay36 v3, k0_pay37⟩) Q ⊢ wp frame (wpE (defs₀ (F := F)) 𝒱₀ (c : Thread nD τ) none) Set.univ (k0_part9 xM (Memref.isWhole_whole _) oM (Memref.isWhole_whole _) curM (Memref.isWhole_whole _) rcvM (Memref.isWhole_whole _) cc0_scratch2 cc0_scratch3 v3 v356 v359 >>= k) Q := by
  rw [k0_part9_eq_skeleton]; unfold k0_part9_skel
  simp only [Prog.lift, Prog.bind_op, Prog.bind_ret, Prog.pure_eq_ret, bind_assoc, pure_bind]
  exact BI.Entails.refl _

theorem part10_step (v3 : BitVec 32) (v394 : FVec F S256x128 .bf16) (v397 : IVec S256x128 32) (v401 : IVec S256x128 1) (v402 : IVec S256x128 32)
    {k : (Σ' (v441 : FVec F S4x32x128 .bf16) (v442 : FVec F S4x32x128 .bf16) (v451 : IVec S4x32x128 1), FVec F S4x32x128 .bf16) → Prog (TpuEff nD τ sig (Elt F) Λ₀ .tc) α} {Q : α → sProp 𝕄} :
    wp frame (wpE (defs₀ (F := F)) 𝒱₀ (c : Thread nD τ) none) Set.univ (k ⟨k0_pay41 v3 v394 v397 v401 v402, k0_pay42 v3 v394 v397 v401 v402, k0_pay43 v3, k0_pay44 v3 v394 v397 v401 v402⟩) Q ⊢ wp frame (wpE (defs₀ (F := F)) 𝒱₀ (c : Thread nD τ) none) Set.univ (k0_part10 xM (Memref.isWhole_whole _) oM (Memref.isWhole_whole _) curM (Memref.isWhole_whole _) rcvM (Memref.isWhole_whole _) cc0_scratch2 cc0_scratch3 v3 v394 v397 v401 v402 >>= k) Q := by
  rw [k0_part10_eq_skeleton]; unfold k0_part10_skel
  simp only [Prog.lift, Prog.bind_op, Prog.bind_ret, Prog.pure_eq_ret, bind_assoc, pure_bind]
  exact BI.Entails.refl _

theorem part11_step (v3 : BitVec 32) (v441 : FVec F S4x32x128 .bf16) (v442 : FVec F S4x32x128 .bf16) (v451 : IVec S4x32x128 1) (v452 : FVec F S4x32x128 .bf16)
    {k : (Σ' (v498 : FVec F S256x128 .bf16) (v501 : IVec S256x128 32), BitVec 32) → Prog (TpuEff nD τ sig (Elt F) Λ₀ .tc) α} {Q : α → sProp 𝕄} :
    wp frame (wpE (defs₀ (F := F)) 𝒱₀ (c : Thread nD τ) none) Set.univ (k ⟨k0_pay45 v3 v441 v442 v451 v452, k0_pay46 v3, 4#32⟩) Q ⊢ wp frame (wpE (defs₀ (F := F)) 𝒱₀ (c : Thread nD τ) none) Set.univ (k0_part11 xM (Memref.isWhole_whole _) oM (Memref.isWhole_whole _) curM (Memref.isWhole_whole _) rcvM (Memref.isWhole_whole _) cc0_scratch2 cc0_scratch3 v3 v441 v442 v451 v452 >>= k) Q := by
  rw [k0_part11_eq_skeleton]; unfold k0_part11_skel
  simp only [Prog.lift, Prog.bind_op, Prog.bind_ret, Prog.pure_eq_ret, bind_assoc, pure_bind]
  exact BI.Entails.refl _

theorem part12_step (v3 : BitVec 32) (v498 : FVec F S256x128 .bf16) (v501 : IVec S256x128 32) (c4_i32_140 : BitVec 32)
    {k : (Σ' (v536 : FVec F S256x128 .bf16) (v543 : IVec S256x128 1), IVec S256x128 32) → Prog (TpuEff nD τ sig (Elt F) Λ₀ .tc) α} {Q : α → sProp 𝕄} :
    wp frame (wpE (defs₀ (F := F)) 𝒱₀ (c : Thread nD τ) none) Set.univ (k ⟨k0_pay47 v3 v498 v501 c4_i32_140, k0_pay49 v3, k0_pay50 v3⟩) Q ⊢ wp frame (wpE (defs₀ (F := F)) 𝒱₀ (c : Thread nD τ) none) Set.univ (k0_part12 xM (Memref.isWhole_whole _) oM (Memref.isWhole_whole _) curM (Memref.isWhole_whole _) rcvM (Memref.isWhole_whole _) cc0_scratch2 cc0_scratch3 v3 v498 v501 c4_i32_140 >>= k) Q := by
  rw [k0_part12_eq_skeleton]; unfold k0_part12_skel
  simp only [Prog.lift, Prog.bind_op, Prog.bind_ret, Prog.pure_eq_ret, bind_assoc, pure_bind]
  exact BI.Entails.refl _

theorem part13_step (v3 : BitVec 32) (v536 : FVec F S256x128 .bf16) (v543 : IVec S256x128 1) (v545 : IVec S256x128 32)
    {k : (Σ' (v594 : FVec F S2x64x128 .bf16), FVec F S2x64x128 .bf16) → Prog (TpuEff nD τ sig (Elt F) Λ₀ .tc) α} {Q : α → sProp 𝕄} :
    wp frame (wpE (defs₀ (F := F)) 𝒱₀ (c : Thread nD τ) none) Set.univ (k ⟨k0_pay57 v3 v536 v543 v545, k0_pay58 v3 v536 v543 v545⟩) Q ⊢ wp frame (wpE (defs₀ (F := F)) 𝒱₀ (c : Thread nD τ) none) Set.univ (k0_part13 xM (Memref.isWhole_whole _) oM (Memref.isWhole_whole _) curM (Memref.isWhole_whole _) rcvM (Memref.isWhole_whole _) cc0_scratch2 cc0_scratch3 v3 v536 v543 v545 >>= k) Q := by
  rw [k0_part13_eq_skeleton]; unfold k0_part13_skel
  simp only [Prog.lift, Prog.bind_op, Prog.bind_ret, Prog.pure_eq_ret, bind_assoc, pure_bind]
  exact BI.Entails.refl _

theorem part14_step (v3 : BitVec 32) (v594 : FVec F S2x64x128 .bf16) (v595 : FVec F S2x64x128 .bf16)
    {k : (Σ' (v643 : FVec F S256x128 .bf16) (v646 : IVec S256x128 32), IVec S256x128 32) → Prog (TpuEff nD τ sig (Elt F) Λ₀ .tc) α} {Q : α → sProp 𝕄} :
    wp frame (wpE (defs₀ (F := F)) 𝒱₀ (c : Thread nD τ) none) Set.univ (k ⟨k0_pay59 v3 v594 v595, k0_pay60 v3, k0_pay61 v3⟩) Q ⊢ wp frame (wpE (defs₀ (F := F)) 𝒱₀ (c : Thread nD τ) none) Set.univ (k0_part14 xM (Memref.isWhole_whole _) oM (Memref.isWhole_whole _) curM (Memref.isWhole_whole _) rcvM (Memref.isWhole_whole _) cc0_scratch2 cc0_scratch3 v3 v594 v595 >>= k) Q := by
  rw [k0_part14_eq_skeleton]; unfold k0_part14_skel
  simp only [Prog.lift, Prog.bind_op, Prog.bind_ret, Prog.pure_eq_ret, bind_assoc, pure_bind]
  exact BI.Entails.refl _

theorem part15_step (v3 : BitVec 32) (v643 : FVec F S256x128 .bf16) (v646 : IVec S256x128 32) (v648 : IVec S256x128 32)
    {k : (Σ' (v681 : FVec F S256x128 .bf16) (v688 : IVec S256x128 1) (v690 : IVec S256x128 32), IVec S256x128 32) → Prog (TpuEff nD τ sig (Elt F) Λ₀ .tc) α} {Q : α → sProp 𝕄} :
    wp frame (wpE (defs₀ (F := F)) 𝒱₀ (c : Thread nD τ) none) Set.univ (k ⟨k0_pay62 v3 v643 v646 v648, k0_pay64 v3, k0_pay65 v3, k0_pay66⟩) Q ⊢ wp frame (wpE (defs₀ (F := F)) 𝒱₀ (c : Thread nD τ) none) Set.univ (k0_part15 xM (Memref.isWhole_whole _) oM (Memref.isWhole_whole _) curM (Memref.isWhole_whole _) rcvM (Memref.isWhole_whole _) cc0_scratch2 cc0_scratch3 v3 v643 v646 v648 >>= k) Q := by
  rw [k0_part15_eq_skeleton]; unfold k0_part15_skel
  simp only [Prog.lift, Prog.bind_op, Prog.bind_ret, Prog.pure_eq_ret, bind_assoc, pure_bind]
  exact BI.Entails.refl _

theorem part20_step (v3 : BitVec 32) (v833 : FVec F S4x32x128 .bf16) (v835 : FVec F S4x32x128 .bf16)
    {k : (Σ' (v874 : FVec F S256x128 .bf16) (v881 : IVec S256x128 1), IVec S256x128 1) → Prog (TpuEff nD τ sig (Elt F) Λ₀ .tc) α} {Q : α → sProp 𝕄} :
    wp frame (wpE (defs₀ (F := F)) 𝒱₀ (c : Thread nD τ) none) Set.univ (k ⟨k0_pay73 v3 v833 v835, k0_pay75 v3, k0_pay76 v3⟩) Q ⊢ wp frame (wpE (defs₀ (F := F)) 𝒱₀ (c : Thread nD τ) none) Set.univ (k0_part20 xM (Memref.isWhole_whole _) oM (Memref.isWhole_whole _) curM (Memref.isWhole_whole _) rcvM (Memref.isWhole_whole _) cc0_scratch2 cc0_scratch3 v3 v833 v835 >>= k) Q := by
  rw [k0_part20_eq_skeleton]; unfold k0_part20_skel
  simp only [Prog.lift, Prog.bind_op, Prog.bind_ret, Prog.pure_eq_ret, bind_assoc, pure_bind]
  exact BI.Entails.refl _

theorem part21_step (v3 : BitVec 32) (v874 : FVec F S256x128 .bf16) (v881 : IVec S256x128 1) (v885 : IVec S256x128 1)
    {k : (Σ' (v912 : FVec F S256x128 .bf16) (v925 : IVec S256x128 1), FVec F S256x128 .bf16) → Prog (TpuEff nD τ sig (Elt F) Λ₀ .tc) α} {Q : α → sProp 𝕄} :
    wp frame (wpE (defs₀ (F := F)) 𝒱₀ (c : Thread nD τ) none) Set.univ (k ⟨k0_pay77 v3 v874 v881 v885, k0_pay80 v3, k0_pay81 v3 v874 v881 v885⟩) Q ⊢ wp frame (wpE (defs₀ (F := F)) 𝒱₀ (c : Thread nD τ) none) Set.univ (k0_part21 xM (Memref.isWhole_whole _) oM (Memref.isWhole_whole _) curM (Memref.isWhole_whole _) rcvM (Memref.isWhole_whole _) cc0_scratch2 cc0_scratch3 v3 v874 v881 v885 >>= k) Q := by
  rw [k0_part21_eq_skeleton]; unfold k0_part21_skel
  simp only [Prog.lift, Prog.bind_op, Prog.bind_ret, Prog.pure_eq_ret, bind_assoc, pure_bind]
  exact BI.Entails.refl _

theorem part27_step (v3 : BitVec 32) (v1108 : FVec F S2x2x64x128 .bf16)
    {k : (Σ' (v1153 : FVec F S256x128 .bf16) (v1156 : IVec S256x128 32), IVec S256x128 1) → Prog (TpuEff nD τ sig (Elt F) Λ₀ .tc) α} {Q : α → sProp 𝕄} :
    wp frame (wpE (defs₀ (F := F)) 𝒱₀ (c : Thread nD τ) none) Set.univ (k ⟨k0_pay92 v3 v1108, k0_pay93 v3, k0_pay94 v3⟩) Q ⊢ wp frame (wpE (defs₀ (F := F)) 𝒱₀ (c : Thread nD τ) none) Set.univ (k0_part27 xM (Memref.isWhole_whole _) oM (Memref.isWhole_whole _) curM (Memref.isWhole_whole _) rcvM (Memref.isWhole_whole _) cc0_scratch2 cc0_scratch3 v3 v1108 >>= k) Q := by
  rw [k0_part27_eq_skeleton]; unfold k0_part27_skel
  simp only [Prog.lift, Prog.bind_op, Prog.bind_ret, Prog.pure_eq_ret, bind_assoc, pure_bind]
  exact BI.Entails.refl _

theorem part28_step (v3 : BitVec 32) (v1153 : FVec F S256x128 .bf16) (v1156 : IVec S256x128 32) (v1160 : IVec S256x128 1)
    {k : (Σ' (v1191 : FVec F S256x128 .bf16) (v1198 : IVec S256x128 1) (v1203 : IVec S256x128 1), IVec S256x128 1) → Prog (TpuEff nD τ sig (Elt F) Λ₀ .tc) α} {Q : α → sProp 𝕄} :
    wp frame (wpE (defs₀ (F := F)) 𝒱₀ (c : Thread nD τ) none) Set.univ (k ⟨k0_pay95 v3 v1153 v1156 v1160, k0_pay97 v3, k0_pay98 v3, (constantI S256x128 1 1#1)⟩) Q ⊢ wp frame (wpE (defs₀ (F := F)) 𝒱₀ (c : Thread nD τ) none) Set.univ (k0_part28 xM (Memref.isWhole_whole _) oM (Memref.isWhole_whole _) curM (Memref.isWhole_whole _) rcvM (Memref.isWhole_whole _) cc0_scratch2 cc0_scratch3 v3 v1153 v1156 v1160 >>= k) Q := by
  rw [k0_part28_eq_skeleton]; unfold k0_part28_skel
  simp only [Prog.lift, Prog.bind_op, Prog.bind_ret, Prog.pure_eq_ret, bind_assoc, pure_bind]
  exact BI.Entails.refl _

theorem part35_step (v3 : BitVec 32) (v1407 : FVec F S256x128 .bf16)
    {k : (Σ' (v1457 : FVec F S8x16x128 .bf16) (v1458 : FVec F S8x16x128 .bf16) (v1459 : IVec S8x16x128 32), IVec S8x16x128 32) → Prog (TpuEff nD τ sig (Elt F) Λ₀ .tc) α} {Q : α → sProp 𝕄} :
    wp frame (wpE (defs₀ (F := F)) 𝒱₀ (c : Thread nD τ) none) Set.univ (k ⟨k0_pay112 v3 v1407, k0_pay113 v3 v1407, (iota .tc S8x16x128 32 [0] iota_S8x16x128_d0_w32), k0_pay114⟩) Q ⊢ wp frame (wpE (defs₀ (F := F)) 𝒱₀ (c : Thread nD τ) none) Set.univ (k0_part35 xM (Memref.isWhole_whole _) oM (Memref.isWhole_whole _) curM (Memref.isWhole_whole _) rcvM (Memref.isWhole_whole _) cc0_scratch2 cc0_scratch3 v3 v1407 >>= k) Q := by
  rw [k0_part35_eq_skeleton]; unfold k0_part35_skel
  simp only [Prog.lift, Prog.bind_op, Prog.bind_ret, Prog.pure_eq_ret, bind_assoc, pure_bind]
  exact BI.Entails.refl _

theorem part36_step (v3 : BitVec 32) (v1457 : FVec F S8x16x128 .bf16) (v1458 : FVec F S8x16x128 .bf16) (v1459 : IVec S8x16x128 32) (v1460 : IVec S8x16x128 32)
    {k : (Σ' (v1492 : FVec F S256x128 .bf16) (v1499 : IVec S256x128 1) (v1505 : IVec S256x128 1), BitVec 32) → Prog (TpuEff nD τ sig (Elt F) Λ₀ .tc) α} {Q : α → sProp 𝕄} :
    wp frame (wpE (defs₀ (F := F)) 𝒱₀ (c : Thread nD τ) none) Set.univ (k ⟨k0_pay115 v3 v1457 v1458 v1459 v1460, k0_pay117 v3, k0_pay118 v3, 252#32⟩) Q ⊢ wp frame (wpE (defs₀ (F := F)) 𝒱₀ (c : Thread nD τ) none) Set.univ (k0_part36 xM (Memref.isWhole_whole _) oM (Memref.isWhole_whole _) curM (Memref.isWhole_whole _) rcvM (Memref.isWhole_whole _) cc0_scratch2 cc0_scratch3 v3 v1457 v1458 v1459 v1460 >>= k) Q := by
  rw [k0_part36_eq_skeleton]; unfold k0_part36_skel
  simp only [Prog.lift, Prog.bind_op, Prog.bind_ret, Prog.pure_eq_ret, bind_assoc, pure_bind]
  exact BI.Entails.refl _

theorem part37_step (v3 : BitVec 32) (v1492 : FVec F S256x128 .bf16) (v1499 : IVec S256x128 1) (v1505 : IVec S256x128 1) (c252_i32_581 : BitVec 32)
    {k : (FVec F S256x128 .bf16) → Prog (TpuEff nD τ sig (Elt F) Λ₀ .tc) α} {Q : α → sProp 𝕄} :
    wp frame (wpE (defs₀ (F := F)) 𝒱₀ (c : Thread nD τ) none) Set.univ (k (k0_pay119 v3 v1492 v1499 v1505 c252_i32_581)) Q ⊢ wp frame (wpE (defs₀ (F := F)) 𝒱₀ (c : Thread nD τ) none) Set.univ (k0_part37 xM (Memref.isWhole_whole _) oM (Memref.isWhole_whole _) curM (Memref.isWhole_whole _) rcvM (Memref.isWhole_whole _) cc0_scratch2 cc0_scratch3 v3 v1492 v1499 v1505 c252_i32_581 >>= k) Q := by
  rw [k0_part37_eq_skeleton]; unfold k0_part37_skel
  simp only [Prog.lift, Prog.bind_op, Prog.bind_ret, Prog.pure_eq_ret, bind_assoc, pure_bind]
  exact BI.Entails.refl _

theorem part46_step (v3 : BitVec 32) (v1814 : FVec F S2x64x128 .bf16) (v1815 : FVec F S2x64x128 .bf16)
    {k : (Σ' (v1863 : FVec F S256x128 .bf16) (v1866 : IVec S256x128 32), IVec S256x128 32) → Prog (TpuEff nD τ sig (Elt F) Λ₀ .tc) α} {Q : α → sProp 𝕄} :
    wp frame (wpE (defs₀ (F := F)) 𝒱₀ (c : Thread nD τ) none) Set.univ (k ⟨k0_pay142 v3 v1814 v1815, k0_pay143 v3, k0_pay144 v3⟩) Q ⊢ wp frame (wpE (defs₀ (F := F)) 𝒱₀ (c : Thread nD τ) none) Set.univ (k0_part46 xM (Memref.isWhole_whole _) oM (Memref.isWhole_whole _) curM (Memref.isWhole_whole _) rcvM (Memref.isWhole_whole _) cc0_scratch2 cc0_scratch3 v3 v1814 v1815 >>= k) Q := by
  rw [k0_part46_eq_skeleton]; unfold k0_part46_skel
  simp only [Prog.lift, Prog.bind_op, Prog.bind_ret, Prog.pure_eq_ret, bind_assoc, pure_bind]
  exact BI.Entails.refl _

theorem part47_step (v3 : BitVec 32) (v1863 : FVec F S256x128 .bf16) (v1866 : IVec S256x128 32) (v1868 : IVec S256x128 32)
    {k : (Σ' (v1901 : FVec F S256x128 .bf16) (v1908 : IVec S256x128 1) (v1910 : IVec S256x128 32), IVec S256x128 32) → Prog (TpuEff nD τ sig (Elt F) Λ₀ .tc) α} {Q : α → sProp 𝕄} :
    wp frame (wpE (defs₀ (F := F)) 𝒱₀ (c : Thread nD τ) none) Set.univ (k ⟨k0_pay145 v3 v1863 v1866 v1868, k0_pay147 v3, k0_pay148 v3, k0_pay149⟩) Q ⊢ wp frame (wpE (defs₀ (F := F)) 𝒱₀ (c : Thread nD τ) none) Set.univ (k0_part47 xM (Memref.isWhole_whole _) oM (Memref.isWhole_whole _) curM (Memref.isWhole_whole _) rcvM (Memref.isWhole_whole _) cc0_scratch2 cc0_scratch3 v3 v1863 v1866 v1868 >>= k) Q := by
  rw [k0_part47_eq_skeleton]; unfold k0_part47_skel
  simp only [Prog.lift, Prog.bind_op, Prog.bind_ret, Prog.pure_eq_ret, bind_assoc, pure_bind]
  exact BI.Entails.refl _

/-- What the body starts from, the names `K` of the launch's invariants given: the barrier's and the transfers' ghost
    state, the working block, the own landing slots, the two windows' staging buffers. -/
def bodyIn (X : Dev nD → FVec F S256x128 .bf16) (K : Dev nD × CI → ℕ) (c : Dev nD) : sProp 𝕄 :=
  iprop(Bar X K c ∗ (bigSepL [0, 1, 2, 3, 4, 5, 6] fun j => Sig X K j c) ∗ (bigSepL [0, 1, 2, 3, 4, 5, 6, 7, 8, 9, 10, 11, 12, 13] fun s => Kit X K s c) ∗ (levAts L lv : sProp 𝕄)
    ∗ (∃ A, curPts (F := F) fullShare c A) ∗ (bigSepL [0, 1, 2, 3, 4, 5, 6, 7, 8, 9, 10, 11, 12, 13] fun s => slotAny (F := F) s c) ∗ owing (F := F) c allDues ∗ xPts c (X c) ∗ (∃ g, oPts (F := F) c g))

/-- What the body leaves. -/
def bodyOut (X : Dev nD → FVec F S256x128 .bf16) (c : Dev nD) : sProp 𝕄 :=
  iprop((semVal (barCell c) 0 : sProp 𝕄) ∗ (bigSepL [0, 1, 2, 3, 4, 5, 6, 7, 8, 9, 10, 11, 12, 13] fun s => semVal (sendCell s c) 0) ∗ (bigSepL [0, 1, 2, 3, 4, 5, 6, 7, 8, 9, 10, 11, 12, 13] fun s => semVal (recvCell s c) 0)
    ∗ (∃ A, curPts (F := F) fullShare c A) ∗ (bigSepL [0, 1, 2, 3, 4, 5, 6, 7, 8, 9, 10, 11, 12, 13] fun s => slotAny (F := F) s c) ∗ owing (F := F) c [] ∗ xPts c (X c) ∗ oPts c (outBlk X c))

omit [FloatOps F] in
theorem slot_any (s : Fin 14) (A : FVec F S256x128 .bf16) : slotPts s c A ⊢ (slotAny s c : sProp 𝕄) := by
  unfold slotPts slotAny
  iintro ⟨%f, -, H⟩
  iexists f; iexact H

set_option maxHeartbeats 8000000 in
set_option maxRecDepth 16000 in
/-- The body, its parts in program order. -/
theorem body_run {Q : PUnit → sProp 𝕄} :
    iprop(bodyIn X K c ∗ (bodyOut X c -∗ Q ⟨⟩))
      ⊢ wp frame (wpE (defs₀ (F := F)) 𝒱₀ (c : Thread nD τ) none) Set.univ (cc0_body (F := F) xM (Memref.isWhole_whole _) oM (Memref.isWhole_whole _) curM (Memref.isWhole_whole _) rcvM (Memref.isWhole_whole _) cc0_scratch2 cc0_scratch3) Q := by
  rw [cc0_body_eq_skeleton]; unfold cc0_body_skel
  rw [wp_bind, k0_part48_eq_skeleton]; unfold k0_part48_skel bodyIn allDues
  simp only [sep14, sep7]
  iintro ⟨⟨HBar, ⟨HS0, HS1, HS2, HS3, HS4, HS5, HS6⟩, ⟨HK0, HK1, HK2, HK3, HK4, HK5, HK6, HK7, HK8, HK9, HK10, HK11, HK12, HK13⟩, #Hlev, ⟨%A, Hcur⟩, ⟨HF0, HF1, HF2, HF3, HF4, HF5, HF6, HF7, HF8, HF9, HF10, HF11, HF12, HF13⟩, Ho, Hx, ⟨%g, Hout⟩⟩, Hk⟩
  ihave HB0 := (show iprop(slotAny (F := F) 0 c ∗ slotAny (F := F) 1 c ∗ slotAny (F := F) 7 c ∗ slotAny (F := F) 11 c) ⊢ (barPay (F := F) (nbr 0 c) 0 : sProp 𝕄) from barPay_own c 0) $$ [HF0 HF1 HF7 HF11]
  · isplitl [HF0]; · iexact HF0
    isplitl [HF1]; · iexact HF1
    isplitl [HF7]; · iexact HF7
    iexact HF11
  ihave HB1 := (show iprop(slotAny (F := F) 2 c ∗ slotAny (F := F) 4 c ∗ slotAny (F := F) 12 c) ⊢ (barPay (F := F) (nbr 1 c) 1 : sProp 𝕄) from barPay_own c 1) $$ [HF2 HF4 HF12]
  · isplitl [HF2]; · iexact HF2
    isplitl [HF4]; · iexact HF4
    iexact HF12
  ihave HB2 := (show iprop(slotAny (F := F) 3 c ∗ slotAny (F := F) 13 c) ⊢ (barPay (F := F) (nbr 2 c) 2 : sProp 𝕄) from barPay_own c 2) $$ [HF3 HF13]
  · isplitl [HF3]; · iexact HF3
    iexact HF13
  ihave HB3 := (show iprop(slotAny (F := F) 5 c ∗ slotAny (F := F) 8 c) ⊢ (barPay (F := F) (nbr 3 c) 3 : sProp 𝕄) from barPay_own c 3) $$ [HF5 HF8]
  · isplitl [HF5]; · iexact HF5
    iexact HF8
  ihave HB4 := (show iprop(slotAny (F := F) 6 c) ⊢ (barPay (F := F) (nbr 4 c) 4 : sProp 𝕄) from barPay_own c 4) $$ [HF6]
  · iexact HF6
  ihave HB5 := (show iprop(slotAny (F := F) 9 c) ⊢ (barPay (F := F) (nbr 5 c) 5 : sProp 𝕄) from barPay_own c 5) $$ [HF9]
  · iexact HF9
  ihave HB6 := (show iprop(slotAny (F := F) 10 c) ⊢ (barPay (F := F) (nbr 6 c) 6 : sProp 𝕄) from barPay_own c 6) $$ [HF10]
  · iexact HF10
  iapply (part1_step c (X c)) $$ Hx; iintro Hx; dsimp only
  iapply (part2_step c); dsimp only
  iapply (part3_step c); dsimp only
  iapply (part4_step c); dsimp only
  iapply (part5_step c); dsimp only
  iapply (part6_step c); dsimp only
  iapply (part7_step c); dsimp only
  iapply (part8_step c); dsimp only
  iapply (part9_step c); dsimp only
  iapply (part10_step c); dsimp only
  iapply (part11_step c); dsimp only
  iapply (part12_step c); dsimp only
  iapply (part13_step c); dsimp only
  iapply (part14_step c); dsimp only
  iapply (part15_step c); dsimp only
  iapply (part16_step X K c A _ _ _ _ _ _ rfl) $$ [Ho Hcur HS0 HB0]
  · isplitl [Ho]; · iexact Ho
    isplitl [Hcur]; · iexact Hcur
    isplitl [HS0]; · iexact HS0
    iexact HB0
  iintro ⟨Hcur, Ho⟩; dsimp only
  iapply (part17_step X K c  _) $$ [Ho HS1 HB1 HS2 HB2 HS3 HB3 HS4 HB4 HS5 HB5 HS6 HB6 HBar]
  · isplitl [Ho]; · iexact Ho
    isplitr; · iexact Hlev
    isplitl [HS1]; · iexact HS1
    isplitl [HB1]; · iexact HB1
    isplitl [HS2]; · iexact HS2
    isplitl [HB2]; · iexact HB2
    isplitl [HS3]; · iexact HS3
    isplitl [HB3]; · iexact HB3
    isplitl [HS4]; · iexact HS4
    isplitl [HB4]; · iexact HB4
    isplitl [HS5]; · iexact HS5
    isplitl [HB5]; · iexact HB5
    isplitl [HS6]; · iexact HS6
    isplitl [HB6]; · iexact HB6
    iexact HBar
  iintro ⟨Hland, HzB, Ho⟩; dsimp only
  ihave Hland := (land_split (F := F) c) $$ Hland
  simp only [sep14]
  icases Hland with ⟨HL0, HL1, HL2, HL3, HL4, HL5, HL6, HL7, HL8, HL9, HL10, HL11, HL12, HL13⟩
  iapply (part18_step X K c  _ _) $$ [Ho Hcur HK0 HL0]
  · isplitl [Ho]; · iexact Ho
    isplitr; · iexact Hlev
    isplitl [Hcur]; · iexact Hcur
    isplitl [HK0]; · iexact HK0
    iexact HL0
  iintro ⟨HP0, Hcur, HzR0, HzS0, Ho⟩; dsimp only
  iapply (part19_step X c  _ _ rfl) $$ [Hcur]
  · iexact Hcur
  iintro Hcur; dsimp only
  iapply (part20_step c); dsimp only
  iapply (part21_step c); dsimp only
  iapply (part22_step X K c  _ _ _ _ _ rfl) $$ [Ho Hcur HK1 HL1]
  · isplitl [Ho]; · iexact Ho
    isplitl [Hcur]; · iexact Hcur
    isplitl [HK1]; · iexact HK1
    iexact HL1
  iintro ⟨HR1, HT1, Hc1, Hc2, Ho⟩; dsimp only
  iapply (part23_step X K c  _ _ _) $$ [Ho Hc1 Hc2 HK2 HL2 HK3 HL3 HT1 HR1]
  · isplitl [Ho]; · iexact Ho
    isplitr; · iexact Hlev
    isplitl [Hc1]; · iexact Hc1
    isplitl [Hc2]; · iexact Hc2
    isplitl [HK2]; · iexact HK2
    isplitl [HL2]; · iexact HL2
    isplitl [HK3]; · iexact HK3
    isplitl [HL3]; · iexact HL3
    isplitl [HT1]; · iexact HT1
    iexact HR1
  iintro ⟨HP1, HR2, HR3, HT2, HT3, Hc0, HzR1, HzS1, Ho⟩; dsimp only
  iapply (part24_step X K c  _ _ _) $$ [Ho Hc0 HT2 HR2 HT3 HR3 HP1]
  · isplitl [Ho]; · iexact Ho
    isplitr; · iexact Hlev
    isplitl [Hc0]; · iexact Hc0
    isplitl [HT2]; · iexact HT2
    isplitl [HR2]; · iexact HR2
    isplitl [HT3]; · iexact HT3
    isplitl [HR3]; · iexact HR3
    iexact HP1
  iintro ⟨HP1, HP2, HP3, Hcur, HzR2, HzR3, HzS2, HzS3, Ho⟩; dsimp only
  iapply (part25_step X c  _ _ _ _) $$ [HP3]
  · iexact HP3
  iintro HP3; dsimp only
  iapply (part26_step X c  _ _ _ _ _ rfl) $$ [Hcur]
  · iexact Hcur
  iintro Hcur; dsimp only
  iapply (part27_step c); dsimp only
  iapply (part28_step c); dsimp only
  iapply (part29_step X K c  _ _ _ _ _ _ rfl) $$ [Ho Hcur HK4 HL4]
  · isplitl [Ho]; · iexact Ho
    isplitl [Hcur]; · iexact Hcur
    isplitl [HK4]; · iexact HK4
    iexact HL4
  iintro ⟨HR4, HT4, Hc1, Hc2, Ho⟩; dsimp only
  iapply (part30_step X K c  _ _ _) $$ [Ho Hc1 Hc2 HK5 HL5 HK6 HL6 HT4 HR4]
  · isplitl [Ho]; · iexact Ho
    isplitr; · iexact Hlev
    isplitl [Hc1]; · iexact Hc1
    isplitl [Hc2]; · iexact Hc2
    isplitl [HK5]; · iexact HK5
    isplitl [HL5]; · iexact HL5
    isplitl [HK6]; · iexact HK6
    isplitl [HL6]; · iexact HL6
    isplitl [HT4]; · iexact HT4
    iexact HR4
  iintro ⟨HP4, HR5, HR6, HT5, HT6, Hc0, HzR4, HzS4, Ho⟩; dsimp only
  iapply (part31_step X K c  _ _ _) $$ [Ho Hc0 HT5 HR5 HT6 HR6 HP4]
  · isplitl [Ho]; · iexact Ho
    isplitr; · iexact Hlev
    isplitl [Hc0]; · iexact Hc0
    isplitl [HT5]; · iexact HT5
    isplitl [HR5]; · iexact HR5
    isplitl [HT6]; · iexact HT6
    isplitl [HR6]; · iexact HR6
    iexact HP4
  iintro ⟨HP4, HP5, HP6, Hcur, HzR5, HzR6, HzS5, HzS6, Ho⟩; dsimp only
  iapply (part32_step X c  _ _ _) $$ [HP5 HP6]
  · isplitl [HP5]; · iexact HP5
    iexact HP6
  iintro ⟨HP5, HP6⟩; dsimp only
  iapply (part33_step X K c  _ _ _ _ _ _ _ rfl) $$ [Ho Hcur HK7 HL7]
  · isplitl [Ho]; · iexact Ho
    isplitr; · iexact Hlev
    isplitl [Hcur]; · iexact Hcur
    isplitl [HK7]; · iexact HK7
    iexact HL7
  iintro ⟨HP7, Hcur, HzR7, HzS7, Ho⟩; dsimp only
  iapply (part34_step X c  _ _ rfl) $$ [Hcur HP7]
  · isplitl [Hcur]; · iexact Hcur
    iexact HP7
  iintro ⟨HP7, Hcur⟩; dsimp only
  iapply (part35_step c); dsimp only
  iapply (part36_step c); dsimp only
  iapply (part37_step c); dsimp only
  iapply (part38_step X K c  _ _ rfl) $$ [Ho Hcur HK8 HL8 HK9 HL9 HK10 HL10]
  · isplitl [Ho]; · iexact Ho
    isplitl [Hcur]; · iexact Hcur
    isplitl [HK8]; · iexact HK8
    isplitl [HL8]; · iexact HL8
    isplitl [HK9]; · iexact HK9
    isplitl [HL9]; · iexact HL9
    isplitl [HK10]; · iexact HK10
    iexact HL10
  iintro ⟨HR8, HR9, HR10, HT8, HT9, HT10, Ho⟩; dsimp only
  iapply (part39_step X K c  _ _) $$ [Ho HT8 HR8 HT9 HR9 HT10]
  · isplitl [Ho]; · iexact Ho
    isplitr; · iexact Hlev
    isplitl [HT8]; · iexact HT8
    isplitl [HR8]; · iexact HR8
    isplitl [HT9]; · iexact HT9
    isplitl [HR9]; · iexact HR9
    iexact HT10
  iintro ⟨HP8, HP9, Hc0, Hc1, Hc2, HzR8, HzR9, HzS8, HzS9, HzS10, Ho⟩; dsimp only
  iapply (part40_step X K c  _ _) $$ [Ho Hc0 Hc1 Hc2 HR10 HP8 HP9]
  · isplitl [Ho]; · iexact Ho
    isplitr; · iexact Hlev
    isplitl [Hc0]; · iexact Hc0
    isplitl [Hc1]; · iexact Hc1
    isplitl [Hc2]; · iexact Hc2
    isplitl [HR10]; · iexact HR10
    isplitl [HP8]; · iexact HP8
    iexact HP9
  iintro ⟨HP8, HP9, HP10, Hcur, HzR10, Ho⟩; dsimp only
  iapply (part41_step X K c  _ _ _ _ _ _ _ _ rfl) $$ [Ho Hcur HK11 HL11]
  · isplitl [Ho]; · iexact Ho
    isplitl [Hcur]; · iexact Hcur
    isplitl [HK11]; · iexact HK11
    iexact HL11
  iintro ⟨HR11, HT11, Hc1, Hc2, Ho⟩; dsimp only
  iapply (part42_step X K c  _ _ _) $$ [Ho Hc1 Hc2 HK12 HL12 HK13 HL13 HT11 HR11]
  · isplitl [Ho]; · iexact Ho
    isplitr; · iexact Hlev
    isplitl [Hc1]; · iexact Hc1
    isplitl [Hc2]; · iexact Hc2
    isplitl [HK12]; · iexact HK12
    isplitl [HL12]; · iexact HL12
    isplitl [HK13]; · iexact HK13
    isplitl [HL13]; · iexact HL13
    isplitl [HT11]; · iexact HT11
    iexact HR11
  iintro ⟨HP11, HR12, HR13, HT12, HT13, Hc0, HzR11, HzS11, Ho⟩; dsimp only
  iapply (part43_step X K c  _ _ _) $$ [Ho Hc0 HT12 HR12 HT13 HR13 HP11]
  · isplitl [Ho]; · iexact Ho
    isplitr; · iexact Hlev
    isplitl [Hc0]; · iexact Hc0
    isplitl [HT12]; · iexact HT12
    isplitl [HR12]; · iexact HR12
    isplitl [HT13]; · iexact HT13
    isplitl [HR13]; · iexact HR13
    iexact HP11
  iintro ⟨HP11, HP12, HP13, Hcur, HzR12, HzR13, HzS12, HzS13, Ho⟩; dsimp only
  iapply (part44_step X c  _ _ _) $$ [HP12 HP13]
  · isplitl [HP12]; · iexact HP12
    iexact HP13
  iintro ⟨HP12, HP13⟩; dsimp only
  iapply (part45_step X c  _ _ _ _ rfl) $$ [Hcur]
  · iexact Hcur
  iintro Hcur; dsimp only
  iapply (part46_step c); dsimp only
  iapply (part47_step c); dsimp only
  rw [Prog.pure_eq_ret, wp_ret]; imodintro; dsimp only
  simp only [Prog.lift, Prog.bind_op, Prog.bind_ret, Prog.pure_eq_ret]
  iapply (load_cur c fullShare (mid6 X c)) $$ Hcur; iintro Hcur
  iapply (store_cur c (mid6 X c) _) $$ Hcur; iintro Hcur
  ihave Hcur := (show curPts fullShare c (k0_pay1 (rowWord c)
      (k0_pay150
        (k0_pay145 (rowWord c) (k0_pay142 (rowWord c) (k0_pay140 (rowWord c) (mid6 X c)) (k0_pay141 (rowWord c) (mid6 X c))) (k0_pay143 (rowWord c)) (k0_pay144 (rowWord c)))
        (k0_pay147 (rowWord c)) (k0_pay148 (rowWord c)) k0_pay149)
      (iota Kind.tc S256x128 32 [0] iota_S256x128_d0_w32)) ⊢ (curPts fullShare c (blk6 X c) : sProp 𝕄) from BI.Entails.refl _) $$ Hcur
  iapply (load_cur c fullShare (blk6 X c)) $$ Hcur; iintro Hcur
  iapply (wp_load (defs := defs₀ (F := F)) 𝒱₀ (c : Thread nD τ) none Set.univ (m := oM) (Finset.subset_univ _)) $$ Hout; iintro Hout
  iapply (wp_store (defs := defs₀ (F := F)) 𝒱₀ (c : Thread nD τ) none Set.univ (m := oM) (r := r0) (Mk := Finset.univ) (Finset.subset_univ _)) $$ Hout; iintro Hout
  rw [write_out, wp_ret]; imodintro
  iapply Hk
  unfold bodyOut; simp only [sep14]
  isplitl [HzB]; · iexact HzB
  isplitl [HzS0 HzS1 HzS2 HzS3 HzS4 HzS5 HzS6 HzS7 HzS8 HzS9 HzS10 HzS11 HzS12 HzS13]
  · isplitl [HzS0]; · iexact HzS0
    isplitl [HzS1]; · iexact HzS1
    isplitl [HzS2]; · iexact HzS2
    isplitl [HzS3]; · iexact HzS3
    isplitl [HzS4]; · iexact HzS4
    isplitl [HzS5]; · iexact HzS5
    isplitl [HzS6]; · iexact HzS6
    isplitl [HzS7]; · iexact HzS7
    isplitl [HzS8]; · iexact HzS8
    isplitl [HzS9]; · iexact HzS9
    isplitl [HzS10]; · iexact HzS10
    isplitl [HzS11]; · iexact HzS11
    isplitl [HzS12]; · iexact HzS12
    iexact HzS13
  isplitl [HzR0 HzR1 HzR2 HzR3 HzR4 HzR5 HzR6 HzR7 HzR8 HzR9 HzR10 HzR11 HzR12 HzR13]
  · isplitl [HzR0]; · iexact HzR0
    isplitl [HzR1]; · iexact HzR1
    isplitl [HzR2]; · iexact HzR2
    isplitl [HzR3]; · iexact HzR3
    isplitl [HzR4]; · iexact HzR4
    isplitl [HzR5]; · iexact HzR5
    isplitl [HzR6]; · iexact HzR6
    isplitl [HzR7]; · iexact HzR7
    isplitl [HzR8]; · iexact HzR8
    isplitl [HzR9]; · iexact HzR9
    isplitl [HzR10]; · iexact HzR10
    isplitl [HzR11]; · iexact HzR11
    isplitl [HzR12]; · iexact HzR12
    iexact HzR13
  isplitl [Hcur]; · iexists _; iexact Hcur
  isplitl [HP0 HP1 HP2 HP3 HP4 HP5 HP6 HP7 HP8 HP9 HP10 HP11 HP12 HP13]
  · isplitl [HP0]; · iapply (slot_any c 0 _); iexact HP0
    isplitl [HP1]; · iapply (slot_any c 1 _); iexact HP1
    isplitl [HP2]; · iapply (slot_any c 2 _); iexact HP2
    isplitl [HP3]; · iapply (slot_any c 3 _); iexact HP3
    isplitl [HP4]; · iapply (slot_any c 4 _); iexact HP4
    isplitl [HP5]; · iapply (slot_any c 5 _); iexact HP5
    isplitl [HP6]; · iapply (slot_any c 6 _); iexact HP6
    isplitl [HP7]; · iapply (slot_any c 7 _); iexact HP7
    isplitl [HP8]; · iapply (slot_any c 8 _); iexact HP8
    isplitl [HP9]; · iapply (slot_any c 9 _); iexact HP9
    isplitl [HP10]; · iapply (slot_any c 10 _); iexact HP10
    isplitl [HP11]; · iapply (slot_any c 11 _); iexact HP11
    isplitl [HP12]; · iapply (slot_any c 12 _); iexact HP12
    iapply (slot_any c 13 _); iexact HP13
  isplitl [Ho]; · iexact Ho
  isplitl [Hx]; · iexact Hx
  iexact Hout

end Run

end Cert.Sort

end
-- ==== Proof.Launch.lean ====
/-
# The launch and the run

What every device starts the body with, dealt in one step from the launch: the cells' invariants, each device's positions,
the tokens of the duties it pays, the credits it waits with, its landing buffer cut into slots. Then the run of the whole
program, at any float values.
-/
module

public import proofs.«01_k».proof.Proof.Body
public import proofs.«01_k».proof.Proof.Gen.KernelIdeal.Points
public import Idealize.ShloMosaic.Lib.Pipeline.CollectiveSegs
public import Idealize.ShloMosaic.Lib.Pipeline.ValueKit.Geometry

@[expose] public section

noncomputable section

namespace Cert.Sort

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Sums over the index types -/

omit [FloatOps F] in
theorem sep7u (Φ : Fin 7 → sProp 𝕄) : bigSep Finset.univ Φ = bigSepL [0, 1, 2, 3, 4, 5, 6] Φ :=
  bigSep_univ_eq_bigSepL [0, 1, 2, 3, 4, 5, 6] (by decide) (by decide) Φ
omit [FloatOps F] in
theorem sep14u (Φ : Fin 14 → sProp 𝕄) : bigSep Finset.univ Φ = bigSepL [0, 1, 2, 3, 4, 5, 6, 7, 8, 9, 10, 11, 12, 13] Φ :=
  bigSep_univ_eq_bigSepL [0, 1, 2, 3, 4, 5, 6, 7, 8, 9, 10, 11, 12, 13] (by decide) (by decide) Φ

/-- The barrier, the send cells, the receive cells. -/
def ciEquiv : Unit ⊕ Fin 14 ⊕ Fin 14 ≃ CI where
  toFun | .inl _ => none | .inr (.inl s) => some (false, s) | .inr (.inr s) => some (true, s)
  invFun | none => .inl () | some (false, s) => .inr (.inl s) | some (true, s) => .inr (.inr s)
  left_inv := by rintro (_ | _ | _) <;> rfl
  right_inv := by rintro (_ | ⟨_ | _, _⟩) <;> rfl

omit [FloatOps F] in
theorem sepCI (Φ : CI → sProp 𝕄) :
    bigSep Finset.univ Φ = iprop(Φ none ∗ (bigSep Finset.univ fun s => Φ (some (false, s))) ∗ bigSep Finset.univ fun s => Φ (some (true, s))) := by
  rw [bigSep_univ_equiv ciEquiv, bigSep_univ_sum, bigSep_univ_sum, bigSep_univ_of_subsingleton ()]; rfl

/-- The send cells, then the receive cells. -/
def bfEquiv : Fin 14 ⊕ Fin 14 ≃ Bool × Fin 14 where
  toFun | .inl s => (false, s) | .inr s => (true, s)
  invFun | (false, s) => .inl s | (true, s) => .inr s
  left_inv := by rintro (_ | _) <;> rfl
  right_inv := by rintro ⟨_ | _, _⟩ <;> rfl

omit [FloatOps F] in
theorem sepBF (Φ : Bool × Fin 14 → sProp 𝕄) :
    bigSep Finset.univ Φ = iprop((bigSep Finset.univ fun s => Φ (false, s)) ∗ bigSep Finset.univ fun s => Φ (true, s)) := by
  rw [bigSep_univ_equiv bfEquiv, bigSep_univ_sum]; rfl

/-- A device's `j`-th partner, as a permutation of the mesh. -/
def nbrE (j : Fin 7) : Dev nD ≃ Dev nD := ⟨nbr j, nbr j, nbr_nbr j, nbr_nbr j⟩

/-! ## The landing buffer and its slots -/

theorem mem_slot (s : Fin 14) (i : S14x256x128.Idx) : i ∈ (slotM s).view.set ↔ (i 0).val = s.val := by
  rw [Memref.set_view_squeeze]
  refine (ValueKit.mem_set_slice_whole_iff cc0_scratch1 (slotR s) i (Rect.mem_set_unit (i := i))).trans ⟨fun h => ?_, fun h a => ?_⟩
  · have := h 0
    change s.val ≤ (i 0).val ∧ (i 0).val < s.val + 1 at this
    omega
  · have ha := (i a).isLt
    fin_cases a
    · change s.val ≤ (i 0).val ∧ (i 0).val < s.val + 1; omega
    · change 0 ≤ (i 1).val ∧ (i 1).val < 0 + 256; exact ⟨Nat.zero_le _, by simpa using ha⟩
    · change 0 ≤ (i 2).val ∧ (i 2).val < 0 + 128; exact ⟨Nat.zero_le _, by simpa using ha⟩

theorem slot_disjoint (s s' : Fin 14) (h : s ≠ s') : Disjoint (slotM s).view.set (slotM s').view.set :=
  Finset.disjoint_left.mpr fun i hi hi' => h (Fin.ext (((mem_slot s i).mp hi).symm.trans ((mem_slot s' i).mp hi')))

theorem slot_cover : Finset.biUnion (β := S14x256x128.Idx) Finset.univ (fun s : Fin 14 => (slotM s).view.set) = Finset.univ :=
  Finset.eq_univ_of_forall fun i => Finset.mem_biUnion.mpr ⟨(⟨(i 0).val, (i 0).isLt⟩ : Fin 14), Finset.mem_univ _, (mem_slot _ i).mpr rfl⟩

omit [FloatOps F] in
theorem slot_intro (s : Fin 14) (c : Dev nD) (f : Buf (Elt F) ((slotM s).view.loc (c : Thread nD τ))) :
    ((slotM s).view.loc (c : Thread nD τ) ↦[(slotM s).view.set]{fullShare} f : sProp 𝕄) ⊢ slotAny s c := by
  unfold slotAny
  iintro H; iexists f; iexact H
omit [FloatOps F] in
/-- The landing buffer is its fourteen slots; -/
theorem slots_split (c : Dev nD) (f : Buf (Elt F) ((c : Thread nD τ).loc cc0_scratch1)) :
    (((c : Thread nD τ).loc cc0_scratch1) ↦{fullShare} f : sProp 𝕄) ⊢ bigSepL [0, 1, 2, 3, 4, 5, 6, 7, 8, 9, 10, 11, 12, 13] fun s => slotAny (F := F) s c := by
  rw [← sep14u]
  refine (Entails.of_eq (Ring.pointsTo_blocks (ℓ := (c : Thread nD τ).loc cc0_scratch1) (fun s : Fin 14 => (slotM s).view.set) slot_disjoint slot_cover f)).trans ?_
  exact bigSep_mono fun s _ => slot_intro s c f
omit [FloatOps F] in
/-- the slots make the landing buffer again. -/
theorem slots_join [Nonempty (Buf (Elt F) (((0 : Dev nD) : Thread nD τ).loc cc0_scratch1))] (c : Dev nD) :
    (bigSepL [0, 1, 2, 3, 4, 5, 6, 7, 8, 9, 10, 11, 12, 13] fun s => slotAny (F := F) s c)
      ⊢ (iprop(∃ g : Buf (Elt F) ((c : Thread nD τ).loc cc0_scratch1), ((c : Thread nD τ).loc cc0_scratch1) ↦{fullShare} g) : sProp 𝕄) := by
  rw [← sep14u]
  exact Ring.pointsTo_blocks_join_exists (ℓ := (c : Thread nD τ).loc cc0_scratch1) (fun s : Fin 14 => (slotM s).view.set) slot_disjoint slot_cover
    (Classical.arbitrary (Buf (Elt F) (((0 : Dev nD) : Thread nD τ).loc cc0_scratch1)))

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- Device `c`'s block of the input. -/
def xstg (c : Dev nD) : FVec F S256x128 .bf16 :=
  (win0_0.blk (0 : Fin 1)).view.read (Elt F) ((s₀ m ρ).mem ((c : Thread nD τ).loc main_arg0))

/-! ## What a device starts with -/

section Start

variable (X : Dev nD → FVec F S256x128 .bf16) (K : Dev nD × CI → ℕ)

/-- What device `c` starts transfer `s` with but for its credit. -/
def KitG (s : Fin 14) (c : Dev nD) : sProp 𝕄 :=
  iprop(cellInv ER (xRd X) (K (c, some (false, s))) (sendCell s c) ∗ cellInv ER (xRd X) (K (c, some (true, s))) (recvCell s c)
    ∗ cellInv ER (xRd X) (K (tgt s c, some (true, s))) (recvCell s (tgt s c))
    ∗ reached ER (sendCell s c) 0 ∗ reached ER (recvCell s (tgt s c)) 0
    ∗ atPos ER (sendCell s c) 0 ∅ 0 ∗ atPos ER (recvCell s c) 0 ∅ 0
    ∗ dutyTok ER (sendCell s c) 0 0 ∗ dutyTok ER (recvCell s (tgt s c)) 0 0)

/-- The ghost state device `c` starts from. -/
def ghost (c : Dev nD) : sProp 𝕄 :=
  iprop((cellInv ER (xRd X) (K (c, none)) (barCell c) ∗ atPos ER (barCell c) 0 ∅ 0)
    ∗ (bigSep Finset.univ fun j => Sig X K j c) ∗ bigSep Finset.univ fun s => KitG X K s c)

/-- The credits device `c` waits with: its barrier's seven units, a block at every receive cell. -/
def credsOf (c : Dev nD) : CellTallies nD τ sig Unit := tallyAt (barCell c) () 7 + ∑ s : Fin 14, tallyAt (recvCell s c) () N

def start (c : Dev nD) : sProp 𝕄 := iprop((∃ K, ghost X K c) ∗ cred (credsOf c) ∗ levAts L lv)

omit [FloatOps F] in
theorem cred_split (c : Dev nD) : (cred (credsOf c) : sProp 𝕄) = iprop(cred (tallyAt (barCell c) () 7) ∗ bigSep Finset.univ fun s => cred (tallyAt (recvCell s c) () N)) := by
  unfold credsOf
  rw [BI.Entails.antisymm (cred_add _ _).1 (cred_add _ _).2, Pipeline.cred_finsetSum]

/-- A transfer's ghost state with its credit is its kit. -/
theorem kit_intro (s : Fin 14) (c : Dev nD) : iprop(KitG X K s c ∗ cred (tallyAt (recvCell s c) () N)) ⊢ (Kit X K s c : sProp 𝕄) := by
  unfold KitG Kit
  iintro ⟨⟨H1, H2, H3, H4, H5, H6, H7, H8, H9⟩, H10⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem kits_intro (c : Dev nD) :
    iprop((bigSep Finset.univ fun s => KitG X K s c) ∗ bigSep Finset.univ fun s => cred (tallyAt (recvCell s c) () N)) ⊢ (bigSep Finset.univ fun s => Kit X K s c : sProp 𝕄) := by
  rw [← bigSep_sep']
  exact bigSep_mono fun s _ => kit_intro X K s c

end Start

/-! ## The pipeline's proof data -/

def Φ₀ (c : Dev nD) : sProp 𝕄 :=
  iprop(start (xstg m ρ) c ∗ (∃ A, curPts fullShare c A) ∗ bigSepL [0, 1, 2, 3, 4, 5, 6, 7, 8, 9, 10, 11, 12, 13] fun s => slotAny (F := F) s c)
/-- After the point: the scratch buffers back, and every cell at zero, closed. -/
def Φ₁ (c : Dev nD) : sProp 𝕄 :=
  iprop((semVal (barCell c) 0 : sProp 𝕄) ∗ (bigSepL [0, 1, 2, 3, 4, 5, 6, 7, 8, 9, 10, 11, 12, 13] fun s => semVal (sendCell s c) 0)
    ∗ (bigSepL [0, 1, 2, 3, 4, 5, 6, 7, 8, 9, 10, 11, 12, 13] fun s => semVal (recvCell s c) 0)
    ∗ (∃ A, curPts (F := F) fullShare c A) ∗ bigSepL [0, 1, 2, 3, 4, 5, 6, 7, 8, 9, 10, 11, 12, 13] fun s => slotAny (F := F) s c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outBlk (xstg m ρ) c
  Φ t := match t with
    | ⟨0, _⟩ => Φ₀ m ρ c
    | ⟨_ + 1, _⟩ => Φ₁ c
  q _ := fullShare
  owed t := match t with
    | ⟨0, _⟩ => O₀ c
    | ⟨_ + 1, _⟩ => 0

omit [FloatOps F] in
theorem owns_whole_eq (c : Dev nD) (b : Ref sig .tc) (A : b.ty.Contents (Elt F)) :
    (owns (Ix := Unit) (Name := ℕ) (U := UU) (Lvl := ℕ) (c : Thread nD τ) (Memref.whole b) fullShare A : sProp 𝕄)
      = iprop(∃ f : Buf (Elt F) (((c : Dev nD) : Thread nD τ).loc b), ⌜f = A⌝ ∗ (((c : Thread nD τ).loc b) ↦{fullShare} f)) := by
  unfold owns; simp only [Memref.view_whole, View.read_whole, View.set_whole]

abbrev stg (c : Dev nD) (b : Ref sig .tc) (A : b.ty.Contents (Elt F)) : sProp 𝕄 :=
  iprop(∃ f : Buf (Elt F) (((c : Dev nD) : Thread nD τ).loc b), ⌜f = A⌝ ∗ (((c : Thread nD τ).loc b) ↦{fullShare} f))

def bodyPre (c : Dev nD) : sProp 𝕄 :=
  iprop(Φ₀ m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

def bodyPost (c : Dev nD) : sProp 𝕄 :=
  iprop(Φ₁ c ∗ (dats m ρ 0 c).owesAt () t0_0.succ ∗ stg c cc0_stg0_0 (xstg m ρ c) ∗ stg c cc0_stg1_0 (outBlk (xstg m ρ) c))

set_option maxRecDepth 20000 in
/-- The library's body obligation on core `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ wp frame (wpE (defs₀ (F := F)) 𝒱₀ c none) Set.univ
    (cc0_body xM (Memref.isWhole_whole _) oM (Memref.isWhole_whole _) curM (Memref.isWhole_whole _) rcvM (Memref.isWhole_whole _) cc0_scratch2 cc0_scratch3) (fun _ => bodyPost m ρ c)
  unfold bodyPre Φ₀ start ghost Dat.owesAt Pipeline.owesWithin
  iintro ⟨⟨⟨⟨%K, ⟨⟨HI, Hat⟩, HS, HK⟩⟩, Hcr, Hlev⟩, Hcur, Hsl⟩, ⟨%W, %hW, HO⟩, ⟨%d0, %g0, %hg0, Hx⟩, ⟨%d1, %g1, %hg1, Hout⟩⟩
  have hx : g0 = xstg m ρ c := by rw [hg0]; unfold Dat.before; rw [if_pos (fetch0_0 t0_0)]; rfl
  subst hx
  ihave Hcr := (Entails.of_eq (cred_split (F := F) c)) $$ Hcr
  icases Hcr with ⟨HcB, Hcs⟩
  ihave HK := (kits_intro (xstg m ρ) K c) $$ [HK Hcs]
  · isplitl [HK]; · iexact HK
    iexact Hcs
  ihave HK := (Entails.of_eq (sep14u fun s => Kit (xstg m ρ) K s c)) $$ HK
  ihave HS := (Entails.of_eq (sep7u fun j => Sig (xstg m ρ) K j c)) $$ HS
  iapply (body_run (xstg m ρ) K c)
  unfold bodyIn
  isplitr []
  · isplitl [HI Hat HcB]
    · unfold Bar
      isplitl [HI]; · iexact HI
      isplitl [Hat]; · iexact Hat
      iexact HcB
    isplitl [HS]; · iexact HS
    isplitl [HK]; · iexact HK
    isplitl [Hlev]; · iexact Hlev
    isplitl [Hcur]; · iexact Hcur
    isplitl [Hsl]; · iexact Hsl
    isplitl [HO]; · unfold owing; iexists W; iexact HO
    isplitl [Hx]; · iexact Hx
    iexists g1; iexact Hout
  · unfold bodyOut bodyPost Φ₁ Dat.owesAt Pipeline.owesWithin owing
    iintro ⟨HzB, HzS, HzR, Hcur, Hsl, ⟨%W', HO⟩, Hx, Hout⟩
    isplitl [HzB HzS HzR Hcur Hsl]
    · isplitl [HzB]; · iexact HzB
      isplitl [HzS]; · iexact HzS
      isplitl [HzR]; · iexact HzR
      isplitl [Hcur]; · iexact Hcur
      iexact Hsl
    isplitl [HO]
    · iexists W'
      isplitr; · ipureintro; exact fun _ _ => Or.inl trivial
      iexact HO
    isplitl [Hx]
    · iexists _; isplitr; · (ipureintro; rfl)
      iexact Hx
    iexists _; isplitr; · (ipureintro; rfl)
    iexact Hout

/-! ## The launch -/

theorem ownSemFacts : Pipeline.OwnSemFacts cfg0.spec osem := by decide

theorem share_eq (c : Dev nD) (w : Fin cfg0.W) : (dats m ρ 0 c).share w = fullShare := by unfold Dat.share; split <;> rfl

theorem csem_injective : Function.Injective csem := by decide

theorem kcell_injective : Function.Injective (kcell : Dev nD × CI → GSem nD τ sig) := by
  rintro ⟨c, k⟩ ⟨c', k'⟩ h
  have h1 : c = c' := congrArg (fun g : GSem nD τ sig => g.1.1) h
  have h2 : k = k' := csem_injective (congrArg Prod.snd h)
  rw [h1, h2]
def xCells : Finset (GSem nD τ sig) := Finset.univ.map ⟨kcell, kcell_injective⟩

/-- A device's own cells' duty tokens as minted: its barrier's seven, one of each send and receive cell. -/
abbrev tokOf (cj : Dev nD × (Fin 7 ⊕ Bool × Fin 14)) : GSem nD τ sig × ℕ × Fin 7 := match cj.2 with
  | .inl j => (barCell cj.1, 0, j) | .inr k => (kcell (cj.1, some k), 0, 0)
theorem tokOf_injective : Function.Injective (tokOf : Dev nD × (Fin 7 ⊕ Bool × Fin 14) → GSem nD τ sig × ℕ × Fin 7) := by
  rintro ⟨c, j | k⟩ ⟨c', j' | k'⟩ h
  · have h1 : c = c' := congrArg (fun x : GSem nD τ sig × ℕ × Fin 7 => x.1.1.1) h
    have h2 : j = j' := congrArg (fun x : GSem nD τ sig × ℕ × Fin 7 => x.2.2) h
    rw [h1, h2]
  · have h2 : csem none = csem (some k') := congrArg (fun x : GSem nD τ sig × ℕ × Fin 7 => x.1.2) h
    exact absurd (csem_injective h2) (by simp)
  · have h2 : csem (some k) = csem none := congrArg (fun x : GSem nD τ sig × ℕ × Fin 7 => x.1.2) h
    exact absurd (csem_injective h2) (by simp)
  · have h1 : c = c' := congrArg (fun x : GSem nD τ sig × ℕ × Fin 7 => x.1.1.1) h
    have h2 : csem (some k) = csem (some k') := congrArg (fun x : GSem nD τ sig × ℕ × Fin 7 => x.1.2) h
    rw [h1, Option.some.inj (csem_injective h2)]
def xToks : Finset (GSem nD τ sig × ℕ × Fin 7) := Finset.univ.map ⟨tokOf, tokOf_injective⟩

def u₀ : UU :=
  (initOf (Pipeline.cells cfgs cellOf_inj) (Pipeline.launchToks cfgs cellOf_inj), initOf xCells xToks)

/-- The duty tokens of device `c`'s own cells. -/
def toks (c : Dev nD) : sProp 𝕄 :=
  iprop((bigSep Finset.univ fun j : Fin 7 => dutyTok ER (barCell c) 0 j) ∗ (bigSep Finset.univ fun s : Fin 14 => dutyTok ER (sendCell s c) 0 0)
    ∗ bigSep Finset.univ fun s : Fin 14 => dutyTok ER (recvCell s c) 0 0)

/-- The tokens of the duties device `c` pays. -/
def payToks (c : Dev nD) : sProp 𝕄 :=
  iprop((bigSep Finset.univ fun j : Fin 7 => dutyTok ER (barCell (nbr j c)) 0 j) ∗ (bigSep Finset.univ fun s : Fin 14 => dutyTok ER (sendCell s c) 0 0)
    ∗ bigSep Finset.univ fun s : Fin 14 => dutyTok ER (recvCell s (tgt s c)) 0 0)

/-- What the launch element deals device `c`. -/
def G (c : Dev nD) : sProp 𝕄 :=
  iprop((bigSep Finset.univ fun k : CI => roundState ER (xRd (xstg m ρ)) (kcell (c, k)) 0)
    ∗ (bigSep Finset.univ fun k : CI => iprop(atPos ER (kcell (c, k)) 0 ∅ 0 ∗ reached ER (kcell (c, k)) 0)) ∗ toks c)

/-- What the global step makes of it. -/
def G' (c : Dev nD) : sProp 𝕄 := iprop(∃ K, ghost (xstg m ρ) K c)

theorem fund_x : BI.own (ER (initOf xCells xToks)) ⊢ (|==> bigSep Finset.univ (G m ρ) : sProp 𝕄) := by
  have hX (Φ : GSem nD τ sig → sProp 𝕄) : bigSep xCells Φ = bigSep Finset.univ fun c : Dev nD => bigSep Finset.univ fun k : CI => Φ (kcell (c, k)) := by
    unfold xCells; rw [bigSep_map, bigSep_univ_prod]; rfl
  have hT : bigSep xToks (fun x => (dutyTok ER x.1 x.2.1 x.2.2 : sProp 𝕄)) = bigSep Finset.univ fun c : Dev nD => toks c := by
    unfold xToks; rw [bigSep_map, bigSep_univ_prod]
    exact bigSep_congr fun c _ => by unfold toks; rw [bigSep_univ_sum, sepBF]; rfl
  iintro HX
  imod (Rounds.fund ER (xRd (xstg m ρ)) xCells xToks) $$ HX with ⟨Hst, Hr, Hat, Htok⟩
  imodintro
  ihave Hst' := (Entails.of_eq (hX fun g => roundState ER (xRd (xstg m ρ)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The send and receive semaphores are the kernel's own; -/
theorem ownSems0_eq (c : Dev nD) : (Pipeline.ownSems0 (Ix := Unit) (Name := ℕ) (U := UU) (Lvl := ℕ) (Val := Elt F) (τ := τ) osem c : sProp 𝕄)
    = iprop((bigSep Finset.univ fun s => semVal (sendCell s c) 0) ∗ bigSep Finset.univ fun s => semVal (recvCell s c) 0) := by
  unfold Pipeline.ownSems0; rw [sepBF]
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CI => semVal (kcell (c, k)) 0 : sProp 𝕄) := by
  rw [ownSems0_eq, unscopedSems0_eq, sepCI]
  iintro ⟨⟨HS, HV⟩, HB⟩
  isplitl [HB]; · iexact HB
  isplitl [HS]; · iexact HS
  iexact HV

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (xRd (xstg m ρ)) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CI => semVal (kcell (c, k)) 0) ∗ bigSep Finset.univ fun k : CI => roundState ER (xRd (xstg m ρ)) (kcell (c, k)) 0)
      ⊢ (|={Set.univ}=> bigSep Finset.univ fun k => iprop(∃ κ : ℕ, cellInv ER (xRd (xstg m ρ)) κ (kcell (c, k))) : sProp 𝕄) from by
        rw [← bigSep_sep']
        exact (bigSep_mono fun k _ => (Rounds.body_intro ER (xRd (xstg m ρ)) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

section Records

variable (X : Dev nD → FVec F S256x128 .bf16) (K : Dev nD × CI → ℕ)

def records : sProp 𝕄 :=
  iprop((bigSep Finset.univ fun ck : Dev nD × CI => cellInv ER (xRd X) (K ck) (kcell ck))
    ∗ bigSep Finset.univ fun ck : Dev nD × CI => reached ER (kcell ck) 0)

instance records_persistent : BI.Persistent (records X K) := by unfold records; infer_instance

theorem inv_of (ck : Dev nD × CI) : (bigSep Finset.univ fun ck : Dev nD × CI => (cellInv ER (xRd X) (K ck) (kcell ck) : sProp 𝕄)) ⊢ cellInv ER (xRd X) (K ck) (kcell ck) :=
  bigSep_elim (Finset.mem_univ ck)
omit [FloatOps F] in
theorem reached_of (ck : Dev nD × CI) : (bigSep Finset.univ fun ck : Dev nD × CI => (reached ER (kcell ck) 0 : sProp 𝕄)) ⊢ reached ER (kcell ck) 0 :=
  bigSep_elim (Finset.mem_univ ck)

theorem inv_at (ck : Dev nD × CI) : records X K ⊢ cellInv ER (xRd X) (K ck) (kcell ck) := by
  unfold records; iintro ⟨H, -⟩
  iapply (inv_of X K ck); iexact H
theorem reached_at (ck : Dev nD × CI) : records X K ⊢ reached ER (kcell ck) 0 := by
  unfold records; iintro ⟨-, H⟩
  iapply (reached_of (F := F) ck); iexact H

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- What stays with device `c`: its positions, and the tokens of the duties it pays. -/
def linear (c : Dev nD) : sProp 𝕄 :=
  iprop((bigSep Finset.univ fun k : CI => atPos ER (kcell (c, k)) 0 ∅ 0) ∗ payToks c)

/-- The signals' ghost state from the records and their tokens; -/
theorem sigs_intro (c : Dev nD) :
    iprop(records X K ∗ bigSep Finset.univ fun j : Fin 7 => dutyTok ER (barCell (nbr j c)) 0 j) ⊢ bigSep Finset.univ fun j => Sig X K j c :=
  bigSep_with_persistent fun j _ => by
    unfold Sig
    iintro ⟨#HR, Ht⟩
    isplitr; · iapply (inv_at X K (nbr j c, none)); iexact HR
    isplitr; · iapply (reached_at X K (nbr j c, none)); iexact HR
    iexact Ht

/-- the transfers', from the records, their positions and their tokens. -/
theorem kitgs_intro (c : Dev nD) :
    iprop(records X K ∗ bigSep Finset.univ fun s : Fin 14 => iprop((atPos ER (sendCell s c) 0 ∅ 0 ∗ atPos ER (recvCell s c) 0 ∅ 0)
        ∗ dutyTok ER (sendCell s c) 0 0 ∗ dutyTok ER (recvCell s (tgt s c)) 0 0)) ⊢ bigSep Finset.univ fun s => KitG X K s c :=
  bigSep_with_persistent fun s _ => by
    unfold KitG
    iintro ⟨#HR, ⟨H1, H2⟩, H3, H4⟩
    isplitr; · iapply (inv_at X K (c, some (false, s))); iexact HR
    isplitr; · iapply (inv_at X K (c, some (true, s))); iexact HR
    isplitr; · iapply (inv_at X K (tgt s c, some (true, s))); iexact HR
    isplitr; · iapply (reached_at X K (c, some (false, s))); iexact HR
    isplitr; · iapply (reached_at X K (tgt s c, some (true, s))); iexact HR
    isplitl [H1]; · iexact H1
    isplitl [H2]; · iexact H2
    isplitl [H3]; · iexact H3
    iexact H4

theorem ghost_intro (c : Dev nD) : iprop(records X K ∗ linear c) ⊢ ghost X K c := by
  unfold linear payToks ghost
  rw [sepCI]
  iintro ⟨#HR, ⟨HaB, HaS, HaV⟩, HtB, HtS, HtV⟩
  isplitl [HaB]
  · isplitr; · iapply (inv_at X K (c, none)); iexact HR
    iexact HaB
  isplitl [HtB]
  · iapply (sigs_intro X K c)
    isplitr; · iexact HR
    iexact HtB
  iapply (kitgs_intro X K c)
  isplitr; · iexact HR
  rw [bigSep_sep', bigSep_sep', bigSep_sep']
  isplitl [HaS HaV]
  · isplitl [HaS]; · iexact HaS
    iexact HaV
  isplitl [HtS]; · iexact HtS
  iexact HtV

end Records

omit [FloatOps F] in
/-- The tokens dealt: each cell's to the partner that pays it. -/
theorem toks_around : (bigSep Finset.univ fun c : Dev nD => (toks c : sProp 𝕄)) ⊢ bigSep Finset.univ fun c : Dev nD => payToks c := by
  have hB : (bigSep Finset.univ fun c : Dev nD => bigSep Finset.univ fun j : Fin 7 => (dutyTok ER (barCell c) 0 j : sProp 𝕄))
      = bigSep Finset.univ fun c : Dev nD => bigSep Finset.univ fun j : Fin 7 => dutyTok ER (barCell (nbr j c)) 0 j := by
    rw [bigSep_univ_comm, bigSep_univ_comm (fun (c : Dev nD) (j : Fin 7) => (dutyTok ER (barCell (nbr j c)) 0 j : sProp 𝕄))]
    exact bigSep_congr fun j _ => bigSep_univ_equiv (nbrE j) (fun c : Dev nD => (dutyTok ER (barCell c) 0 j : sProp 𝕄))
  have hV : (bigSep Finset.univ fun c : Dev nD => bigSep Finset.univ fun s : Fin 14 => (dutyTok ER (recvCell s c) 0 0 : sProp 𝕄))
      = bigSep Finset.univ fun c : Dev nD => bigSep Finset.univ fun s : Fin 14 => dutyTok ER (recvCell s (tgt s c)) 0 0 := by
    rw [bigSep_univ_comm, bigSep_univ_comm (fun (c : Dev nD) (s : Fin 14) => (dutyTok ER (recvCell s (tgt s c)) 0 0 : sProp 𝕄))]
    exact bigSep_congr fun s _ => bigSep_univ_equiv (nbrE (slotPeer s)) (fun c : Dev nD => (dutyTok ER (recvCell s c) 0 0 : sProp 𝕄))
  unfold toks payToks
  rw [bigSep_sep', bigSep_sep', bigSep_sep', bigSep_sep', hB, hV]

theorem regroup :
    (bigSep Finset.univ fun c : Dev nD => iprop((bigSep Finset.univ fun k => iprop(∃ κ : ℕ, cellInv ER (xRd (xstg m ρ)) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × CI => iprop(∃ κ : ℕ, cellInv ER (xRd (xstg m ρ)) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄))]
  iintro ⟨HI, ⟨Hat, #HR⟩, Htok⟩
  ihave HK := (BI.bigSep_exists_pi Finset.univ (fun (ck : Dev nD × CI) (κ : ℕ) => (cellInv ER (xRd (xstg m ρ)) κ (kcell ck) : sProp 𝕄))) $$ HI
  icases HK with ⟨%K, #HI⟩
  ihave Htk := (toks_around (F := F)) $$ Htok
  iapply (bigSep_with_persistent (R := records (xstg m ρ) K) (Φ := fun c => linear c) fun c _ => (ghost_intro (xstg m ρ) K c).trans (by unfold G'; iintro H; iexists K; iexact H))
  isplitr
  · unfold records; isplitl; · iexact HI
    iexact HR
  · unfold linear
    rw [bigSep_sep']
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

/-- A list of dues as a sum. -/
theorem dues_sum (c : Dev nD) (l : List Due) : dues c l = (l.map fun x => tallyAt (dueCell c x) () (dueAmt x)).sum := by
  induction l with
  | nil => rfl
  | cons x l ih => rw [List.map_cons, List.sum_cons, ← ih, dues, add_comm]

theorem allDues_eq : allDues = (List.finRange 7).map Sum.inl ++ (List.finRange 14).map Sum.inr := by decide

theorem O₀_sum (c : Dev nD) : O₀ c = (∑ j : Fin 7, tallyAt (barCell (nbr j c)) () 1) + ∑ s : Fin 14, (tallyAt (recvCell s (tgt s c)) () N : CellTallies nD τ sig Unit) := by
  unfold O₀
  rw [dues_sum, allDues_eq, List.map_append, List.sum_append, List.map_map, List.map_map, Fin.sum_univ_def, Fin.sum_univ_def]
  rfl

theorem sum_O₀ : (∑ d, O₀ d) = ∑ d, credsOf d := by
  unfold credsOf
  rw [Finset.sum_congr rfl fun d _ => O₀_sum d, Finset.sum_add_distrib, Finset.sum_add_distrib]
  congr 1
  · rw [Finset.sum_comm]
    rw [show (∑ j : Fin 7, ∑ c : Dev nD, (tallyAt (barCell (nbr j c)) () 1 : CellTallies nD τ sig Unit)) = ∑ j : Fin 7, ∑ c : Dev nD, tallyAt (barCell c) () 1 from
      Finset.sum_congr rfl fun j _ => Equiv.sum_comp (nbrE j) (fun c : Dev nD => (tallyAt (barCell c) () 1 : CellTallies nD τ sig Unit)), Finset.sum_comm]
    refine Finset.sum_congr rfl fun c _ => ?_
    rw [Fin.sum_univ_seven]
    simp only [tallyAt_add]
  · rw [Finset.sum_comm]
    rw [show (∑ s : Fin 14, ∑ c : Dev nD, (tallyAt (recvCell s (tgt s c)) () N : CellTallies nD τ sig Unit)) = ∑ s : Fin 14, ∑ c : Dev nD, tallyAt (recvCell s c) () N from
      Finset.sum_congr rfl fun s _ => Equiv.sum_comp (nbrE (slotPeer s)) (fun c : Dev nD => (tallyAt (recvCell s c) () N : CellTallies nD τ sig Unit)), Finset.sum_comm]

theorem creds_on (d : Dev nD) (g : GSem nD τ sig) (h : credsOf d g ≠ 0) : g.1 = (d.tc : Thread nD τ) := by
  by_contra hne
  refine h ?_
  unfold credsOf
  rw [Pi.add_apply, tallyAt_ne_cell (fun e => hne (congrArg Prod.fst e)), Finset.sum_apply,
    Finset.sum_eq_zero (fun s _ => tallyAt_ne_cell (fun e => hne (congrArg Prod.fst e)) () N), add_zero]

omit [FloatOps F] in
theorem creds (c : Dev nD) : (Pipeline.launchCred O₀ c : sProp 𝕄) = cred (credsOf c) :=
  Pipeline.launchCred_of_sum O₀ credsOf sum_O₀ creds_on c

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start (xstg m ρ) c ∗ emp) := by
  iintro ⟨-, Hlev, Hcr, -, HG⟩
  ihave Hc := (Entails.of_eq (creds (F := F) c)) $$ Hcr
  imodintro
  unfold start G'
  isplitl
  · isplitl [HG]; · iexact HG
    isplitl [Hc]; · iexact Hc
    iexact Hlev
  · iempintro

theorem phi0_intro (c : Dev nD) :
    iprop(start (xstg m ρ) c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hr⟩, ⟨%g, Hg⟩⟩
  isplitl [Hs]; · iexact Hs
  isplitl [Hr]; · iexists f; unfold curPts; iexact Hr
  iapply (slots_split c g); iexact Hg

theorem phi1_exit (c : Dev nD) :
    (dats m ρ 0 c).Φ (Fin.last cfg0.N) ⊢ iprop(unscopedSems0 c ∗ Pipeline.ownSems0 osem c ∗ Pipeline.scopedRest cfg0.spec c) := by
  have : Nonempty (Buf (Elt F) (((0 : Dev nD) : Thread nD τ).loc cc0_scratch1)) := ⟨m _⟩
  rw [show (dats m ρ 0 c).Φ (Fin.last cfg0.N) = Φ₁ c from rfl, scopedRest0_eq, ownSems0_eq, unscopedSems0_eq, sep14u, sep14u]
  unfold Φ₁ curPts
  iintro ⟨HzB, HzS, HzR, ⟨%A, Hcur⟩, Hsl⟩
  isplitl [HzB]; · iexact HzB
  isplitl [HzS HzR]
  · isplitl [HzS]; · iexact HzS
    iexact HzR
  isplitl [Hcur]; · iexists _; iexact Hcur
  iapply (slots_join c); iexact Hsl

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait c _ allDues (fun x hx => lt_of_le_of_lt (show lv _ () ≤ 0 by clear hx; revert c; fin_cases w <;> fin_cases s <;> exact fun _ => le_refl 0) (by revert x; decide))
    · exact (show (levAts L lv : sProp 𝕄) ⊢ MayWait (c : Thread nD τ) _ () 0 by rw [MayWait_zero]; iintro -; iempintro)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On the mesh of sixteen devices, for any float values, from any memory with zero counters: every weakly fair execution of
    the program terminates, and every final state has each device's arrays at the computed contents and every semaphore
    counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_x m ρ) $$ HX with HG
      imodintro
      isplitl [HP] <;> iassumption)
    (hglob := glob m ρ)
    (hA := fun _ _ => rfl) (hpf := fun _ k => k.elim0)
    (X := start (xstg m ρ)) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The `x` array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

omit [FloatOps F] in
/-- The staged block is the whole argument buffer. -/
theorem xstg_eq (c : Dev nD) : xstg m ρ c = m ((c : Thread nD τ).loc main_arg0) := by
  have hz : (fun a => (win0_0.index (0 : Fin 1)) a * main_arg0.ty.shape.size a) = fun _ => 0 := funext fun a => by fin_cases a <;> decide
  exact Memref.read_access_unit_zero (Elt F) main_arg0 hz (fun a => by fin_cases a <;> decide) _

/-- The result array's one block, read back after the run, is what the body left in the staging buffer. -/
theorem finalA_blk (c : Dev nD) : (win0_1.blk (0 : Fin 1)).view.read (Elt F) (finalA m ρ c (1 : Fin 2)) = outBlk (xstg m ρ) c := by
  unfold finalA
  rw [show cfg0.N = ((0 : Fin 1) : Fin cfg0.N).val + 1 from rfl, (dats m ρ 0 c).arrAt_succ (1 : Fin 2) (0 : Fin 1)]
  rw [show (cfg0.win (1 : Fin 2)).flush (0 : Fin 1) = true from by decide, if_pos rfl]
  exact View.read_write_univ _ _

/-- That block is the whole array. -/
theorem finalA_o (c : Dev nD) : finalA m ρ c (1 : Fin 2) = outBlk (xstg m ρ) c := by
  have hz : (fun a => (win0_1.index (0 : Fin 1)) a * main_v1.ty.shape.size a) = fun _ => 0 := funext fun a => by fin_cases a <;> decide
  have hr := fun f => Memref.read_access_unit_zero (Elt F) main_v1 hz (fun a => by fin_cases a <;> decide) f
  have ho := finalA_blk m ρ c
  rw [hr] at ho
  exact ho

end Cert.Sort

end
-- ==== Proof.Stages.lean ====
/-
# The stages of the kernel

Every segment of the kernel's local work is a chain of two kinds of stage: one on rows closer than 16 apart, which fetches
the partner row by rotating the block, and one on rows 16 or more apart, which cuts the block into pairs of tiles. Every
exchange combines the own block with received ones under a mask. Here the three are written once, and the payloads are
shown to be chains of them.
-/
module

public import proofs.«01_k».proof.Proof.Vals
public import Idealize.ShloMosaic.Lib.Pipeline.Value

@[expose] public section

noncomputable section

namespace Cert.Sort

open Cert.KernelIdeal Cert.KernelIdeal.Gen
open Idealize.ShloMosaic Idealize.SL.Sem

variable {F : FTy → Type} [FloatOps F]

/-- The number of each row of a block that begins at row `v3`. -/
def rowIds (v3 : BitVec 32) : IVec S256x128 32 :=
  addi (iota .tc S256x128 32 [0] iota_S256x128_d0_w32) (broadcast S256x128 v3)

/-- Which of the numbers have no bit in common with `w`. -/
def clear (ii : IVec S256x128 32) (w : BitVec 32) : IVec S256x128 1 :=
  cmpi .eq (andi ii (broadcast S256x128 w)) (broadcast S256x128 0#32)

/-- Which rows take the lesser entry: those for which the two conditions agree. -/
def takeMin (ii : IVec S256x128 32) (j k : BitVec 32) : IVec S256x128 1 :=
  xori (xori (clear ii j) (clear ii k)) (constantI S256x128 1 1#1)

/-- The lesser entry where the mask says so, the greater elsewhere. -/
def pick (t : IVec S256x128 1) (a b : FVec F S256x128 .bf16) : FVec F S256x128 .bf16 :=
  select t (minimumf a b) (maximumf a b)

/-- A stage on rows `j` apart, `j` below 16: the partner's row comes from a rotation by `rl` or by `j`. -/
def rollStage (v3 rl j k : BitVec 32) (x : FVec F S256x128 .bf16) : FVec F S256x128 .bf16 :=
  pick (takeMin (rowIds v3) j k) x
    (select (clear (rowIds v3) j) (dynamicRotate 0 rl none x rotates_S256x128_d0) (dynamicRotate 0 j none x rotates_S256x128_d0))

/-- The block as `m` pairs of tiles of `d` rows. -/
abbrev Pairs (m d : ℕ) : Shape := ⟨4, ![m, 2, d, 128]⟩
/-- One member of every pair, the axis of the pair kept. -/
abbrev Half1 (m d : ℕ) : Shape := ⟨4, ![m, 1, d, 128]⟩
/-- One member of every pair. -/
abbrev Half (m d : ℕ) : Shape := ⟨3, ![m, d, 128]⟩

/-- The shape facts a stage on tiles needs. -/
structure TileFacts (m d : ℕ) : Prop where
  cut : S256x128.ShapeCasts (Pairs m d)
  lo : (Pairs m d).Slices ![0, 0, 0, 0] (Half1 m d)
  hi : (Pairs m d).Slices ![0, 1, 0, 0] (Half1 m d)
  drop : (Half1 m d).ShapeCasts (Half m d)
  add : (Half m d).ShapeCasts (Half1 m d)
  io : (Half m d).Iotas .tc 32 [0]
  cat : Shape.Concatenates [Half1 m d, Half1 m d] (Pairs m d) 1
  back : (Pairs m d).ShapeCasts S256x128

/-- Which pairs of tiles ascend. -/
def tileAsc {m d : ℕ} (h : TileFacts m d) (v3 w k : BitVec 32) : IVec (Half m d) 1 :=
  cmpi .eq (andi (addi (muli (iota .tc (Half m d) 32 [0] h.io) (broadcast (Half m d) w)) (broadcast (Half m d) v3))
    (broadcast (Half m d) k)) (broadcast (Half m d) 0#32)

/-- The lower member of every pair of tiles. -/
def lowHalf {m d : ℕ} (h : TileFacts m d) (x : FVec F S256x128 .bf16) : FVec F (Half m d) .bf16 :=
  shapeCast (Half m d) (extractStridedSlice (Half1 m d) ![0, 0, 0, 0] (shapeCast (Pairs m d) x h.cut) h.lo) h.drop

/-- The higher member of every pair of tiles. -/
def highHalf {m d : ℕ} (h : TileFacts m d) (x : FVec F S256x128 .bf16) : FVec F (Half m d) .bf16 :=
  shapeCast (Half m d) (extractStridedSlice (Half1 m d) ![0, 1, 0, 0] (shapeCast (Pairs m d) x h.cut) h.hi) h.drop

/-- The block of which the two given vectors are the members. -/
def rejoin {m d : ℕ} (h : TileFacts m d) (a b : FVec F (Half m d) .bf16) : FVec F S256x128 .bf16 :=
  shapeCast S256x128 (concatenate (Pairs m d) 1 [⟨Half1 m d, shapeCast (Half1 m d) a h.add⟩, ⟨Half1 m d, shapeCast (Half1 m d) b h.add⟩] h.cat) h.back

/-- A stage on rows `d` apart, `d` at least 16, over `m` pairs of tiles; `w` is twice `d`. -/
def tileStage {m d : ℕ} (h : TileFacts m d) (v3 w k : BitVec 32) (x : FVec F S256x128 .bf16) : FVec F S256x128 .bf16 :=
  rejoin h
    (select (tileAsc h v3 w k) (minimumf (lowHalf h x) (highHalf h x)) (maximumf (lowHalf h x) (highHalf h x)))
    (select (tileAsc h v3 w k) (maximumf (lowHalf h x) (highHalf h x)) (minimumf (lowHalf h x) (highHalf h x)))

theorem tf128 : TileFacts 1 128 := ⟨by decide, by decide, by decide, by decide, by decide, by decide, by decide, by decide⟩
theorem tf64 : TileFacts 2 64 := ⟨by decide, by decide, by decide, by decide, by decide, by decide, by decide, by decide⟩
theorem tf32 : TileFacts 4 32 := ⟨by decide, by decide, by decide, by decide, by decide, by decide, by decide, by decide⟩
theorem tf16 : TileFacts 8 16 := ⟨by decide, by decide, by decide, by decide, by decide, by decide, by decide, by decide⟩

/-- The stage on rows 128 apart. -/
def st7 (v3 k : BitVec 32) (x : FVec F S256x128 .bf16) : FVec F S256x128 .bf16 := tileStage tf128 v3 256#32 k x
/-- The stage on rows 64 apart. -/
def st6 (v3 k : BitVec 32) (x : FVec F S256x128 .bf16) : FVec F S256x128 .bf16 := tileStage tf64 v3 128#32 k x
/-- The stage on rows 32 apart. -/
def st5 (v3 k : BitVec 32) (x : FVec F S256x128 .bf16) : FVec F S256x128 .bf16 := tileStage tf32 v3 64#32 k x
/-- The stage on rows 16 apart. -/
def st4 (v3 k : BitVec 32) (x : FVec F S256x128 .bf16) : FVec F S256x128 .bf16 := tileStage tf16 v3 32#32 k x
/-- The stage on rows 8 apart. -/
def st3 (v3 k : BitVec 32) (x : FVec F S256x128 .bf16) : FVec F S256x128 .bf16 := rollStage v3 248#32 8#32 k x
/-- The stage on rows 4 apart. -/
def st2 (v3 k : BitVec 32) (x : FVec F S256x128 .bf16) : FVec F S256x128 .bf16 := rollStage v3 252#32 4#32 k x
/-- The stage on rows 2 apart. -/
def st1 (v3 k : BitVec 32) (x : FVec F S256x128 .bf16) : FVec F S256x128 .bf16 := rollStage v3 254#32 2#32 k x
/-- The stage on neighbouring rows. -/
def st0 (v3 k : BitVec 32) (x : FVec F S256x128 .bf16) : FVec F S256x128 .bf16 := rollStage v3 255#32 1#32 k x

/-- The eight local stages of a level whose direction is in bit `k`. -/
def allStages (v3 k : BitVec 32) (x : FVec F S256x128 .bf16) : FVec F S256x128 .bf16 :=
  st0 v3 k (st1 v3 k (st2 v3 k (st3 v3 k (st4 v3 k (st5 v3 k (st6 v3 k (st7 v3 k x)))))))

/-- A block cast to its own shape. -/
def same (x : FVec F S256x128 .bf16) : FVec F S256x128 .bf16 := shapeCast S256x128 x shapeCasts_S256x128_S256x128

theorem same_eq (x : FVec F S256x128 .bf16) : same x = x := shapeCast_self _ _

/-- The local merge of each round is the eight local stages. -/
theorem local1_eq (c : Dev nD) (x : FVec F S256x128 .bf16) : local1 c x = same (allStages (rowWord c) 512#32 x) := rfl
theorem local2_eq (c : Dev nD) (x : FVec F S256x128 .bf16) : local2 c x = same (allStages (rowWord c) 1024#32 x) := rfl
theorem local4_eq (c : Dev nD) (x : FVec F S256x128 .bf16) : local4 c x = same (allStages (rowWord c) 2048#32 x) := rfl
theorem local6_eq (c : Dev nD) (x : FVec F S256x128 .bf16) : local6 c x = same (allStages (rowWord c) 4096#32 x) := rfl

/-- A level of the local sort: its stages on rows closer than `2 ^ n`. -/
def level1 (v3 : BitVec 32) (x : FVec F S256x128 .bf16) : FVec F S256x128 .bf16 := st0 v3 2#32 x
def level2 (v3 : BitVec 32) (x : FVec F S256x128 .bf16) : FVec F S256x128 .bf16 := st0 v3 4#32 (st1 v3 4#32 x)
def level3 (v3 : BitVec 32) (x : FVec F S256x128 .bf16) : FVec F S256x128 .bf16 := st0 v3 8#32 (st1 v3 8#32 (st2 v3 8#32 x))
def level4 (v3 : BitVec 32) (x : FVec F S256x128 .bf16) : FVec F S256x128 .bf16 :=
  st0 v3 16#32 (st1 v3 16#32 (st2 v3 16#32 (st3 v3 16#32 x)))
def level5 (v3 : BitVec 32) (x : FVec F S256x128 .bf16) : FVec F S256x128 .bf16 :=
  st0 v3 32#32 (st1 v3 32#32 (st2 v3 32#32 (st3 v3 32#32 (st4 v3 32#32 x))))
def level6 (v3 : BitVec 32) (x : FVec F S256x128 .bf16) : FVec F S256x128 .bf16 :=
  st0 v3 64#32 (st1 v3 64#32 (st2 v3 64#32 (st3 v3 64#32 (st4 v3 64#32 (st5 v3 64#32 x)))))
def level7 (v3 : BitVec 32) (x : FVec F S256x128 .bf16) : FVec F S256x128 .bf16 :=
  st0 v3 128#32 (st1 v3 128#32 (st2 v3 128#32 (st3 v3 128#32 (st4 v3 128#32 (st5 v3 128#32 (st6 v3 128#32 x))))))

/-- What is done before the first exchange: the eight levels of a sort of the block. -/
theorem seg0_eq (c : Dev nD) (x : FVec F S256x128 .bf16) :
    seg0 c x = same (allStages (rowWord c) 256#32 (level7 (rowWord c) (level6 (rowWord c) (level5 (rowWord c) (level4 (rowWord c)
      (level3 (rowWord c) (level2 (rowWord c) (level1 (rowWord c) (same x)))))))) ) := rfl

/-- A received slot as a block. -/
def down (y : Vec F S1x256x128 .bf16) : FVec F S256x128 .bf16 := shapeCast S256x128 y shapeCasts_S1x256x128_S256x128

theorem down_up (x : FVec F S256x128 .bf16) : down (up x) = x := shapeCast_shapeCast _ _ _

/-- An exchange with one partner, `j` rows away. -/
def single (v3 j k : BitVec 32) (a b : FVec F S256x128 .bf16) : FVec F S256x128 .bf16 := pick (takeMin (rowIds v3) j k) a b

/-- An exchange over two distances at once, `2 j` rows and then `j` rows: the stage at the greater distance is done for the
    own rows (blocks `a0`, `a2`) and for the partner's rows (blocks `a1`, `a3`), the stage at the smaller on the two results. -/
def double (v3 j j2 k : BitVec 32) (a0 a1 a2 a3 : FVec F S256x128 .bf16) : FVec F S256x128 .bf16 :=
  pick (takeMin (rowIds v3) j k) (pick (takeMin (rowIds v3) j2 k) a0 a2)
    (pick (takeMin (xori (rowIds v3) (broadcast S256x128 j)) j2 k) a1 a3)

theorem merge1_eq (c : Dev nD) (x : FVec F S256x128 .bf16) (y : Vec F S1x256x128 .bf16) :
    merge1 c x y = same (single (rowWord c) 256#32 512#32 x (down y)) := rfl
theorem merge2_eq (c : Dev nD) (x : FVec F S256x128 .bf16) (y1 y2 y3 : Vec F S1x256x128 .bf16) :
    merge2 c x y1 y2 y3 = same (double (rowWord c) 256#32 512#32 1024#32 x (down y1) (down y2) (down y3)) := rfl
theorem merge3_eq (c : Dev nD) (x : FVec F S256x128 .bf16) (y1 y2 y3 : Vec F S1x256x128 .bf16) :
    merge3 c x y1 y2 y3 = same (double (rowWord c) 512#32 1024#32 2048#32 x (down y1) (down y2) (down y3)) := rfl
theorem merge4_eq (c : Dev nD) (x : FVec F S256x128 .bf16) (y : Vec F S1x256x128 .bf16) :
    merge4 c x y = same (single (rowWord c) 256#32 2048#32 x (down y)) := rfl
theorem merge5_eq (c : Dev nD) (x : FVec F S256x128 .bf16) (y1 y2 y3 : Vec F S1x256x128 .bf16) :
    merge5 c x y1 y2 y3 = same (double (rowWord c) 1024#32 2048#32 4096#32 x (down y1) (down y2) (down y3)) := rfl
theorem merge6_eq (c : Dev nD) (x : FVec F S256x128 .bf16) (y1 y2 y3 : Vec F S1x256x128 .bf16) :
    merge6 c x y1 y2 y3 = same (double (rowWord c) 256#32 512#32 4096#32 x (down y1) (down y2) (down y3)) := rfl

end Cert.Sort

end
-- ==== Proof.Reads.lean ====
/-
# Each stage of the kernel read at an entry

At the extended reals a stage gives every row the lesser or the greater of its own entry and its partner's, and which of
the two is decided by two bits of the row's number in the whole array.
-/
module

public import proofs.«01_k».proof.Proof.Stages
public import Idealize.ShloMosaic.PureOps.Ideal
public import Idealize.ShloMosaic.Lib.ValueIdx
public import Mathlib.Data.Nat.Bitwise
public import Idealize.ShloMosaic.Lib.SortNet.Bitonic
public import Idealize.ShloMosaic.Lib.SortNet.Sorts
public import Idealize.ShloMosaic.Lib.Pointwise.ShapeOpsCore

@[expose] public section

noncomputable section

namespace Cert.Sort

open Cert.KernelIdeal Cert.KernelIdeal.Gen
open Idealize.ShloMosaic hiding ix2 ix3 ix4 eq_ix2
open Idealize.SL.Sem
open Idealize.ShloMosaic.ValueIdx
open Idealize.ShloMosaic.SortNet

/-! ## Bits of row numbers -/

/-- Bit `s` is clear exactly when the quotient by `2 ^ s` is even. -/
theorem and_pow_iff (n s : ℕ) : n &&& 2 ^ s = 0 ↔ n / 2 ^ s % 2 = 0 := by
  rw [Nat.and_two_pow, Nat.testBit_eq_decide_div_mod_eq]
  have := Nat.two_pow_pos s
  rcases Nat.mod_two_eq_zero_or_one (n / 2 ^ s) with h | h <;> simp [h]

/-- A decided proposition as one bit. -/
theorem ofBool_one (p : Prop) [Decidable p] : BitVec.ofBool (decide p) = 1#1 ↔ p := by
  by_cases h : p <;> simp [h]

/-- A bit at or above `t` is the same in two numbers with equal quotients by `2 ^ t`. -/
theorem and_pow_congr {n n' t u : ℕ} (htu : t ≤ u) (h : n / 2 ^ t = n' / 2 ^ t) : n &&& 2 ^ u = 0 ↔ n' &&& 2 ^ u = 0 := by
  obtain ⟨v, rfl⟩ := Nat.exists_eq_add_of_le htu
  rw [and_pow_iff, and_pow_iff, pow_add, ← Nat.div_div_eq_div_mul, ← Nat.div_div_eq_div_mul, h]

/-- The lesser of `a` and `b` if bits `j` and `k` of `n` are both clear or both set, else the greater. -/
def meet (n j k : ℕ) (a b : EReal) : EReal := if (n &&& j = 0 ↔ n &&& k = 0) then min a b else max a b

/-! ## Masks -/

theorem rowWord_eq (c : Dev nD) : rowWord c = BitVec.ofNat 32 (c.val * 256) := by revert c; decide

theorem rowIds_at (c : Dev nD) (r : Fin 256) (q : Fin 128) :
    rowIds (rowWord c) (ix2 r q) = BitVec.ofNat 32 (c.val * 256 + r.val) := by
  show BitVec.ofNat 32 (0 * 256 + r.val) + rowWord c = _
  rw [rowWord_eq, ← BitVec.ofNat_add]
  congr 1
  omega

/-- A comparison of common bits with zero, as one bit. -/
theorem bits_at {n k : ℕ} (hn : n < 2 ^ 32) (hk : k < 2 ^ 32) :
    IntOp.cmpi .eq (IntOp.andi (BitVec.ofNat 32 n) (BitVec.ofNat 32 k)) 0#32 = BitVec.ofBool (decide (n &&& k = 0)) := by
  show BitVec.ofBool ((BitVec.ofNat 32 n &&& BitVec.ofNat 32 k) == 0#32) = _
  congr 1
  rw [Bool.eq_iff_iff, beq_iff_eq, decide_eq_true_iff, ← BitVec.toNat_inj, BitVec.toNat_and, BitVec.toNat_ofNat, BitVec.toNat_ofNat,
    Nat.mod_eq_of_lt hn, Nat.mod_eq_of_lt hk]
  exact Iff.rfl

theorem clear_at {ii : IVec S256x128 32} {i : S256x128.Idx} {n k : ℕ} (h : ii i = BitVec.ofNat 32 n) (hn : n < 2 ^ 32)
    (hk : k < 2 ^ 32) : clear ii (BitVec.ofNat 32 k) i = BitVec.ofBool (decide (n &&& k = 0)) := by
  show IntOp.cmpi .eq (IntOp.andi (ii i) (BitVec.ofNat 32 k)) 0#32 = _
  rw [h, bits_at hn hk]

theorem takeMin_at {ii : IVec S256x128 32} {i : S256x128.Idx} {n j k : ℕ} (h : ii i = BitVec.ofNat 32 n) (hn : n < 2 ^ 32)
    (hj : j < 2 ^ 32) (hk : k < 2 ^ 32) :
    takeMin ii (BitVec.ofNat 32 j) (BitVec.ofNat 32 k) i = 1#1 ↔ (n &&& j = 0 ↔ n &&& k = 0) := by
  show (clear ii _ i ^^^ clear ii _ i) ^^^ 1#1 = 1#1 ↔ _
  rw [clear_at h hn hj, clear_at h hn hk]
  by_cases h1 : n &&& j = 0 <;> by_cases h2 : n &&& k = 0 <;> simp [h1, h2]

theorem pick_at {ii : IVec S256x128 32} {i : S256x128.Idx} {n j k : ℕ} (h : ii i = BitVec.ofNat 32 n) (hn : n < 2 ^ 32)
    (hj : j < 2 ^ 32) (hk : k < 2 ^ 32) (a b : FVec Ideal S256x128 .bf16) :
    pick (takeMin ii (BitVec.ofNat 32 j) (BitVec.ofNat 32 k)) a b i = meet n j k (a i) (b i) := by
  show (if takeMin ii _ _ i = 1#1 then min (a i) (b i) else max (a i) (b i)) = _
  unfold meet
  exact if_congr (takeMin_at h hn hj hk) rfl rfl

/-! ## A stage read at an entry -/

/-- `f` is the stage on rows `2 ^ s` apart with its direction in bit `2 ^ u`. -/
def IsStage (s u : ℕ) (f : BitVec 32 → FVec Ideal S256x128 .bf16 → FVec Ideal S256x128 .bf16) : Prop :=
  ∀ (c : Dev nD) (x : FVec Ideal S256x128 .bf16) (r : Fin 256) (q : Fin 128),
    f (rowWord c) x (ix2 r q) = meet (c.val * 256 + r.val) (2 ^ s) (2 ^ u) (x (ix2 r q)) (x (ix2 (partner 8 s r) q))

/-- A row's partner within a block. -/
theorem partner8_val {s : ℕ} (hs : s < 8) (r : Fin 256) :
    ((partner 8 s r : Fin (2 ^ 8)).val = if r.val / 2 ^ s % 2 = 0 then r.val + 2 ^ s else r.val - 2 ^ s) := by
  by_cases h : r.val &&& 2 ^ s = 0
  · rw [if_pos ((and_pow_iff _ _).mp h)]; exact partner_val_of_clear hs r h
  · rw [if_neg (fun h' => h ((and_pow_iff _ _).mpr h'))]; exact (partner_val_of_set hs r h).2

/-- Below bit 8 a row's number in the array and in its block agree. -/
theorem and_row {s : ℕ} (hs : s < 8) (c r : ℕ) : (c * 256 + r) &&& 2 ^ s = 0 ↔ r &&& 2 ^ s = 0 := by
  rw [and_pow_iff, and_pow_iff]
  obtain ⟨v, hv⟩ := Nat.exists_eq_add_of_lt hs
  have e : c * 256 = 2 ^ s * (2 * (c * 2 ^ v)) := by
    have : (256 : ℕ) = 2 ^ s * (2 * 2 ^ v) := by
      rw [← pow_succ', ← pow_add, show s + (v + 1) = 8 by omega]; norm_num
    rw [this]; ring
  rw [e, Nat.mul_add_div (Nat.two_pow_pos s), Nat.mul_add_mod]

theorem rollStage_isStage {s u : ℕ} (hs : s < 8) (hu : u < 32) {rl : ℕ} (hrl : rl = 256 - 2 ^ s) :
    IsStage s u fun v3 x => rollStage v3 (BitVec.ofNat 32 rl) (BitVec.ofNat 32 (2 ^ s)) (BitVec.ofNat 32 (2 ^ u)) x := by
  intro c x r q
  have hc := c.isLt
  have hr := r.isLt
  have hsp : 2 ^ s ≤ 128 := Nat.pow_le_pow_right (n := 2) (by decide) (show s ≤ 7 by omega)
  have hs0 := Nat.two_pow_pos s
  have hn : c.val * 256 + r.val < 2 ^ 32 := by show c.val * 256 + r.val < 4294967296; have : c.val < 16 := hc; omega
  have hj : 2 ^ s < 2 ^ 32 := by show 2 ^ s < 4294967296; omega
  have hk : 2 ^ u < 2 ^ 32 := Nat.pow_lt_pow_right (by decide) hu
  show pick (takeMin (rowIds (rowWord c)) _ _) x _ (ix2 r q) = _
  rw [pick_at (rowIds_at c r q) hn hj hk]
  congr 1
  show (if clear (rowIds (rowWord c)) _ (ix2 r q) = 1#1 then dynamicRotate 0 (BitVec.ofNat 32 rl) none x _ (ix2 r q)
    else dynamicRotate 0 (BitVec.ofNat 32 (2 ^ s)) none x _ (ix2 r q)) = _
  rw [clear_at (rowIds_at c r q) hn hj]
  have hp := partner8_val hs r
  have hand := and_row hs c.val r.val
  rw [and_pow_iff r.val] at hand
  have e1 : (BitVec.ofNat 32 rl).toNat = 256 - 2 ^ s := by
    rw [BitVec.toNat_ofNat, hrl]; exact Nat.mod_eq_of_lt (by show 256 - 2 ^ s < 4294967296; omega)
  have e2 : (BitVec.ofNat 32 (2 ^ s)).toNat = 2 ^ s := by
    rw [BitVec.toNat_ofNat]; exact Nat.mod_eq_of_lt hj
  have hlt := (partner 8 s r).isLt
  by_cases h : r.val / 2 ^ s % 2 = 0
  · rw [if_pos h] at hp
    rw [if_pos (by rw [decide_eq_true (hand.mpr h)]; rfl), Pointwise.dynamicRotate_apply]
    congr 1
    funext a
    refine Fin.ext ?_
    match a with
    | ⟨0, _⟩ =>
      show (r.val + 256 - ((BitVec.ofNat 32 rl).toNat + 0) % 256) % 256 = (partner 8 s r).val
      rw [e1, hp]
      have : r.val + 2 ^ s < 256 := by rw [hp] at hlt; exact hlt
      omega
    | ⟨1, _⟩ => rfl
  · rw [if_neg h] at hp
    rw [if_neg (by rw [decide_eq_false (fun h' => h (hand.mp h'))]; decide), Pointwise.dynamicRotate_apply]
    congr 1
    funext a
    refine Fin.ext ?_
    match a with
    | ⟨0, _⟩ =>
      show (r.val + 256 - ((BitVec.ofNat 32 (2 ^ s)).toNat + 0) % 256) % 256 = (partner 8 s r).val
      rw [e2, hp]
      have : 2 ^ s ≤ r.val := by
        by_contra h'
        exact h (by rw [Nat.div_eq_of_lt (by omega)])
      omega
    | ⟨1, _⟩ => rfl

/-! ## The stages on tiles -/

section tiles
variable {m d : ℕ} (h : TileFacts m d) (x : FVec Ideal S256x128 .bf16)

theorem lowHalf_at (i : Fin m) (e : Fin d) (q : Fin 128) (r : Fin 256) (hr : r.val = i.val * (2 * d) + e.val) :
    lowHalf h x (ix3 i e q) = x (ix2 r q) := by
  unfold lowHalf
  rw [shapeCast_apply _ h.drop (ix3 i e q) (ix4 i (0 : Fin 1) e q) (by
      rw [Shape.rowMajor_val_four, Shape.rowMajor_val_three]
      show ((i.val * 1 + 0) * d + e.val) * 128 + q.val = (i.val * d + e.val) * 128 + q.val
      ring),
    extractStridedSlice_apply _ _ h.lo (ix4 i (0 : Fin 1) e q) (ix4 i (0 : Fin 2) e q) (by
      intro a
      match a with
      | ⟨0, _⟩ => exact (Nat.zero_add _).symm
      | ⟨1, _⟩ => rfl
      | ⟨2, _⟩ => exact (Nat.zero_add _).symm
      | ⟨3, _⟩ => exact (Nat.zero_add _).symm)]
  refine shapeCast_apply _ h.cut (ix4 i (0 : Fin 2) e q) (ix2 r q) ?_
  rw [Shape.rowMajor_val_four, Shape.rowMajor_val_two]
  show r.val * 128 + q.val = ((i.val * 2 + 0) * d + e.val) * 128 + q.val
  rw [hr]; ring

theorem highHalf_at (i : Fin m) (e : Fin d) (q : Fin 128) (r : Fin 256) (hr : r.val = i.val * (2 * d) + d + e.val) :
    highHalf h x (ix3 i e q) = x (ix2 r q) := by
  unfold highHalf
  rw [shapeCast_apply _ h.drop (ix3 i e q) (ix4 i (0 : Fin 1) e q) (by
      rw [Shape.rowMajor_val_four, Shape.rowMajor_val_three]
      show ((i.val * 1 + 0) * d + e.val) * 128 + q.val = (i.val * d + e.val) * 128 + q.val
      ring),
    extractStridedSlice_apply _ _ h.hi (ix4 i (0 : Fin 1) e q) (ix4 i (1 : Fin 2) e q) (by
      intro a
      match a with
      | ⟨0, _⟩ => exact (Nat.zero_add _).symm
      | ⟨1, _⟩ => rfl
      | ⟨2, _⟩ => exact (Nat.zero_add _).symm
      | ⟨3, _⟩ => exact (Nat.zero_add _).symm)]
  refine shapeCast_apply _ h.cut (ix4 i (1 : Fin 2) e q) (ix2 r q) ?_
  rw [Shape.rowMajor_val_four, Shape.rowMajor_val_two]
  show r.val * 128 + q.val = ((i.val * 2 + 1) * d + e.val) * 128 + q.val
  rw [hr]; ring

theorem rejoin_low (a b : FVec Ideal (Half m d) .bf16) (i : Fin m) (e : Fin d) (q : Fin 128) (r : Fin 256)
    (hr : r.val = i.val * (2 * d) + e.val) : rejoin h a b (ix2 r q) = a (ix3 i e q) := by
  unfold rejoin
  rw [shapeCast_apply _ h.back (ix2 r q) (ix4 i (0 : Fin 2) e q) (by
      rw [Shape.rowMajor_val_four, Shape.rowMajor_val_two]
      show ((i.val * 2 + 0) * d + e.val) * 128 + q.val = r.val * 128 + q.val
      rw [hr]; ring),
    concatenate_pair_apply_left (t := Pairs m d) (s₁ := Half1 m d) (s₂ := Half1 m d) 1 _ _ h.cat (ix4 i (0 : Fin 2) e q) rfl (ix4 i (0 : Fin 1) e q) (by
      intro a
      match a with
      | ⟨0, _⟩ => rfl
      | ⟨1, _⟩ => rfl
      | ⟨2, _⟩ => rfl
      | ⟨3, _⟩ => rfl)]
  refine shapeCast_apply _ h.add _ _ ?_
  rw [Shape.rowMajor_val_four, Shape.rowMajor_val_three]
  show (i.val * d + e.val) * 128 + q.val = ((i.val * 1 + 0) * d + e.val) * 128 + q.val
  ring

theorem rejoin_high (a b : FVec Ideal (Half m d) .bf16) (i : Fin m) (e : Fin d) (q : Fin 128) (r : Fin 256)
    (hr : r.val = i.val * (2 * d) + d + e.val) : rejoin h a b (ix2 r q) = b (ix3 i e q) := by
  unfold rejoin
  rw [shapeCast_apply _ h.back (ix2 r q) (ix4 i (1 : Fin 2) e q) (by
      rw [Shape.rowMajor_val_four, Shape.rowMajor_val_two]
      show ((i.val * 2 + 1) * d + e.val) * 128 + q.val = r.val * 128 + q.val
      rw [hr]; ring),
    concatenate_pair_apply_right (t := Pairs m d) (s₁ := Half1 m d) (s₂ := Half1 m d) 1 _ _ h.cat (ix4 i (1 : Fin 2) e q) rfl rfl (ix4 i (0 : Fin 1) e q) (by
      intro a ha
      match a with
      | ⟨0, _⟩ => rfl
      | ⟨1, _⟩ => exact absurd rfl ha
      | ⟨2, _⟩ => rfl
      | ⟨3, _⟩ => rfl) rfl]
  refine shapeCast_apply _ h.add _ _ ?_
  rw [Shape.rowMajor_val_four, Shape.rowMajor_val_three]
  show (i.val * d + e.val) * 128 + q.val = ((i.val * 1 + 0) * d + e.val) * 128 + q.val
  ring

/-- The direction of a pair of tiles is that of each of its rows. -/
theorem tileAsc_at {u w : ℕ} (hu : u < 32) (c : Dev nD) (i : Fin m) (e : Fin d) (q : Fin 128) (hw : w < 4294967296) (hi : i.val * w < 256) :
    tileAsc h (rowWord c) (BitVec.ofNat 32 w) (BitVec.ofNat 32 (2 ^ u)) (ix3 i e q)
      = BitVec.ofBool (decide ((c.val * 256 + i.val * w) &&& 2 ^ u = 0)) := by
  have hc : c.val < 16 := c.isLt
  have hn : c.val * 256 + i.val * w < 2 ^ 32 := by show _ < 4294967296; omega
  have hk : 2 ^ u < 2 ^ 32 := Nat.pow_lt_pow_right (by decide) hu
  rw [← bits_at hn hk]
  show IntOp.cmpi .eq (IntOp.andi (BitVec.ofNat 32 (0 * m + i.val) * BitVec.ofNat 32 w + rowWord c) _) 0#32 = _
  congr 2
  rw [rowWord_eq, ← BitVec.ofNat_mul, ← BitVec.ofNat_add]
  congr 1
  rw [Nat.zero_mul, Nat.zero_add, Nat.add_comm]

theorem tileStage_isStage {s u : ℕ} (hs : s < 8) (hsu : s < u) (hu : u < 32) (hd : d = 2 ^ s) (hm : m * (2 * d) = 256) {w : ℕ} (hw : w = 2 * d) :
    IsStage s u fun v3 x => tileStage h v3 (BitVec.ofNat 32 w) (BitVec.ofNat 32 (2 ^ u)) x := by
  intro c x r q
  have hd0 : 0 < d := by rw [hd]; exact Nat.two_pow_pos s
  have hr := r.isLt
  have hp := partner8_val hs r
  have hand := and_row hs c.val r.val
  rw [and_pow_iff r.val] at hand
  rw [← hd] at hp hand ⊢
  have hil : r.val / (2 * d) < m := Nat.div_lt_of_lt_mul (by rw [Nat.mul_comm, hm]; exact hr)
  have hdiv : r.val / d / 2 = r.val / (2 * d) := by rw [Nat.div_div_eq_div_mul, Nat.mul_comm]
  have hrd : d * (r.val / d) + r.val % d = r.val := Nat.div_add_mod _ _
  have h2 : r.val / d = 2 * (r.val / (2 * d)) + r.val / d % 2 := by rw [← hdiv]; omega
  have hel : r.val % d < d := Nat.mod_lt _ hd0
  have hiw : r.val / (2 * d) * w < 256 := by
    rw [hw]; exact lt_of_le_of_lt (Nat.div_mul_le_self _ _) hr
  have hw' : w < 4294967296 := by
    have : 2 ^ s ≤ 128 := Nat.pow_le_pow_right (n := 2) (by decide) (show s ≤ 7 by omega)
    omega
  have hasc : (c.val * 256 + r.val / (2 * d) * w) &&& 2 ^ u = 0 ↔ (c.val * 256 + r.val) &&& 2 ^ u = 0 := by
    refine and_pow_congr (t := s + 1) hsu ?_
    have e2 : 2 ^ (s + 1) = 2 * d := by rw [pow_succ, hd, Nat.mul_comm]
    have e3 : c.val * 256 = 2 * d * (c.val * m) := by rw [show c.val * 256 = c.val * (m * (2 * d)) by rw [hm]]; ring
    rw [e2, hw, e3, Nat.mul_comm (r.val / (2 * d)), Nat.mul_add_div (by omega), Nat.mul_add_div (by omega),
      Nat.mul_div_cancel_left _ (by omega)]
  set i : Fin m := ⟨r.val / (2 * d), hil⟩ with hi
  set e : Fin d := ⟨r.val % d, hel⟩ with he
  have ht := tileAsc_at h hu c i e q hw' hiw
  by_cases h0 : r.val / d % 2 = 0
  · rw [if_pos h0] at hp
    have hlow : r.val = i.val * (2 * d) + e.val := by
      show r.val = r.val / (2 * d) * (2 * d) + r.val % d
      rw [h0, Nat.add_zero] at h2
      rw [h2] at hrd
      rw [← hrd.symm.trans hrd]
      calc r.val = d * (2 * (r.val / (2 * d))) + r.val % d := hrd.symm
        _ = _ := by ring
    have hhigh : (partner 8 s r : Fin 256).val = i.val * (2 * d) + d + e.val := by
      rw [show (partner 8 s r : Fin 256).val = r.val + d from hp]; omega
    show rejoin h _ _ (ix2 r q) = _
    rw [rejoin_low h _ _ i e q r hlow]
    show (if tileAsc h (rowWord c) _ _ (ix3 i e q) = 1#1 then min (lowHalf h x (ix3 i e q)) (highHalf h x (ix3 i e q))
      else max (lowHalf h x (ix3 i e q)) (highHalf h x (ix3 i e q))) = _
    rw [lowHalf_at h x i e q r hlow, highHalf_at h x i e q (partner 8 s r) hhigh, ht]
    unfold meet
    refine if_congr ?_ rfl rfl
    rw [ofBool_one]
    refine Iff.trans (b := (c.val * 256 + r.val) &&& 2 ^ u = 0) hasc ?_
    exact ⟨fun h => ⟨fun _ => h, fun _ => hand.mpr h0⟩, fun h => h.mp (hand.mpr h0)⟩
  · rw [if_neg h0] at hp
    have h1 : r.val / d % 2 = 1 := by omega
    have hhigh : r.val = i.val * (2 * d) + d + e.val := by
      show r.val = r.val / (2 * d) * (2 * d) + d + r.val % d
      rw [h1] at h2
      rw [h2] at hrd
      calc r.val = d * (2 * (r.val / (2 * d)) + 1) + r.val % d := hrd.symm
        _ = _ := by ring
    have hlow : (partner 8 s r : Fin 256).val = i.val * (2 * d) + e.val := by
      rw [show (partner 8 s r : Fin 256).val = r.val - d from hp]; omega
    show rejoin h _ _ (ix2 r q) = _
    rw [rejoin_high h _ _ i e q r hhigh]
    show (if tileAsc h (rowWord c) _ _ (ix3 i e q) = 1#1 then max (lowHalf h x (ix3 i e q)) (highHalf h x (ix3 i e q))
      else min (lowHalf h x (ix3 i e q)) (highHalf h x (ix3 i e q))) = _
    rw [lowHalf_at h x i e q (partner 8 s r) hlow, highHalf_at h x i e q r hhigh, ht, max_comm, min_comm]
    unfold meet
    have hne : ¬ (c.val * 256 + r.val) &&& d = 0 := fun h' => h0 (hand.mp h')
    by_cases ha : (c.val * 256 + r.val) &&& 2 ^ u = 0
    · rw [if_pos ((ofBool_one _).mpr (hasc.mpr ha)), if_neg (fun h' => hne (h'.mpr ha))]
    · rw [if_neg (fun h' => ha (hasc.mp ((ofBool_one _).mp h'))), if_pos ⟨fun h' => absurd h' hne, fun h' => absurd h' ha⟩]

end tiles

end Cert.Sort

end
-- ==== Proof.Network.lean ====
/-
# The blocks of the mesh as one sorting network

The sixteen blocks of one column are one vector of 4096 entries. Every local stage and every exchange moves that vector on
by one or two stages of the bitonic network, and the kernel goes through all 78 of them.
-/
module

public import proofs.«01_k».proof.Proof.Reads
public import Mathlib.Data.List.Sort
public import Mathlib.Data.List.FinRange

@[expose] public section

noncomputable section

namespace Cert.Sort

open Cert.KernelIdeal Cert.KernelIdeal.Gen
open Idealize.ShloMosaic hiding ix2 ix3 ix4 eq_ix2
open Idealize.SL.Sem
open Idealize.ShloMosaic.ValueIdx
open Idealize.ShloMosaic.SortNet

/-! ## The stages of the network -/

/-- The place in a column of row `r` of device `c`'s block. -/
abbrev row (c : Dev nD) (r : Fin 256) : Fin (2 ^ 12) := chunkPos (P := 12) (p := 8) (by decide) c r

theorem row_val (c : Dev nD) (r : Fin 256) : (row c r).val = c.val * 256 + r.val := rfl

/-- One stage on a column: entries `2 ^ s` apart compared, the direction in bit `2 ^ u` of the place. -/
def step (s u : ℕ) (v : Fin (2 ^ 12) → EReal) : Fin (2 ^ 12) → EReal :=
  fun i => meet i.val (2 ^ s) (2 ^ u) (v i) (v (partner 12 s i))

theorem step_eq {s u : ℕ} (hs : s < 12) (hsu : s < u) (v : Fin (2 ^ 12) → EReal) :
    Network.apply (stage 12 s fun i => (decide (i.val &&& 2 ^ u = 0)) == false) v = step s u v := by
  funext i
  unfold step meet
  by_cases hi : i.val &&& 2 ^ s = 0
  · rw [(apply_stage hs _ v i hi).1]
    by_cases hu : i.val &&& 2 ^ u = 0
    · rw [decide_eq_true hu, if_neg (by decide), if_pos ⟨fun _ => hu, fun _ => hi⟩]
    · rw [decide_eq_false hu, if_pos (by decide), if_neg (fun h => hu (h.mp hi))]
  · have hp := partner_and_of_set hs i hi
    have hup : (partner 12 s i).val &&& 2 ^ u = 0 ↔ i.val &&& 2 ^ u = 0 := by
      have hlow := partner_val_of_clear hs (partner 12 s i) hp
      rw [partner_partner hs] at hlow
      refine and_pow_congr (t := s + 1) hsu ?_
      have h2 := (and_pow_iff _ _).mp hp
      generalize (partner 12 s i).val = a at h2 hlow ⊢
      rw [hlow, pow_succ, ← Nat.div_div_eq_div_mul, ← Nat.div_div_eq_div_mul, Nat.add_div_right _ (Nat.two_pow_pos s)]
      omega
    have e := (apply_stage hs (fun i => (decide (i.val &&& 2 ^ u = 0)) == false) v (partner 12 s i) hp).2
    rw [partner_partner hs] at e
    rw [e]
    by_cases hu : i.val &&& 2 ^ u = 0
    · rw [decide_eq_true (hup.mpr hu), if_neg (by decide), if_neg (fun h => hi (h.mpr hu)), max_comm]
    · rw [decide_eq_false (fun h => hu (hup.mp h)), if_pos (by decide), if_pos ⟨fun h => absurd h hi, fun h => absurd h hu⟩, min_comm]

/-! ## The blocks of the mesh -/

/-- The devices' blocks `Y` hold the columns `v`. -/
def Holds (Y : Dev nD → FVec Ideal S256x128 .bf16) (v : Fin 128 → Fin (2 ^ 12) → EReal) : Prop :=
  ∀ c r q, Y c (ix2 r q) = v q (row c r)

variable {Y : Dev nD → FVec Ideal S256x128 .bf16} {v : Fin 128 → Fin (2 ^ 12) → EReal}

/-- A local stage is one stage of the network. -/
theorem Holds.stage {s u : ℕ} {f : BitVec 32 → FVec Ideal S256x128 .bf16 → FVec Ideal S256x128 .bf16} (hf : IsStage s u f)
    (hs : s < 8) (hY : Holds Y v) : Holds (fun c => f (rowWord c) (Y c)) fun q => step s u (v q) := by
  intro c r q
  beta_reduce
  rw [hf c (Y c) r q, hY, hY]
  unfold step
  rw [partner_chunkPos (P := 12) (p := 8) (by decide) hs]
  rfl

theorem Holds.same (hY : Holds Y v) : Holds (fun c => same (Y c)) v := by
  intro c r q
  beta_reduce
  rw [same_eq]
  exact hY c r q

/-- The partner of a row at a distance of whole blocks is the same row of another device. -/
theorem partner_row {s : ℕ} (h8 : 8 ≤ s) (h12 : s < 12) {c c' : Dev nD} (hc : c' = partner 4 (s - 8) c) (r : Fin 256) :
    partner 12 s (row c r) = row c' r := by
  subst hc
  exact partner_chunkPos_high (P := 12) (p := 8) (by decide) h8 h12 c r

theorem row_lt (c : Dev nD) (r : Fin 256) : c.val * 256 + r.val < 2 ^ 32 := by
  have h1 : c.val < 16 := c.isLt
  have h2 := r.isLt
  show _ < 4294967296
  omega

theorem pow_lt {s : ℕ} (h : s < 32) : 2 ^ s < 2 ^ 32 := Nat.pow_lt_pow_right (by decide) h

/-- An exchange with one partner is one stage of the network. -/
theorem Holds.single {s u : ℕ} (h8 : 8 ≤ s) (h12 : s < 12) (hu : u < 32) {t : Dev nD → Dev nD}
    (ht : ∀ c, t c = partner 4 (s - 8) c) (hY : Holds Y v) :
    Holds (fun c => single (rowWord c) (BitVec.ofNat 32 (2 ^ s)) (BitVec.ofNat 32 (2 ^ u)) (Y c) (Y (t c)))
      fun q => step s u (v q) := by
  intro c r q
  unfold Sort.single
  beta_reduce
  rw [pick_at (rowIds_at c r q) (row_lt c r) (pow_lt (by omega)) (pow_lt hu), hY, hY]
  unfold step
  rw [partner_row h8 h12 (ht c)]
  rfl

/-- An exchange over two distances is two stages of the network. -/
theorem Holds.double {s u : ℕ} (h8 : 8 ≤ s) (h12 : s + 1 < 12) (hu : u < 32) {t1 t2 t3 : Dev nD → Dev nD}
    (h1 : ∀ c, t1 c = partner 4 (s - 8) c) (h2 : ∀ c, t2 c = partner 4 (s + 1 - 8) c)
    (h3 : ∀ c, t3 c = partner 4 (s + 1 - 8) (partner 4 (s - 8) c)) (hY : Holds Y v) :
    Holds (fun c => double (rowWord c) (BitVec.ofNat 32 (2 ^ s)) (BitVec.ofNat 32 (2 ^ (s + 1))) (BitVec.ofNat 32 (2 ^ u))
      (Y c) (Y (t1 c)) (Y (t2 c)) (Y (t3 c))) fun q => step s u (step (s + 1) u (v q)) := by
  intro c r q
  have hx : xori (rowIds (rowWord c)) (broadcast S256x128 (BitVec.ofNat 32 (2 ^ s))) (ix2 r q)
      = BitVec.ofNat 32 (row (t1 c) r).val := by
    show rowIds (rowWord c) (ix2 r q) ^^^ BitVec.ofNat 32 (2 ^ s) = _
    rw [rowIds_at, ← partner_row h8 (by omega) (h1 c), partner_val (by omega), ← row_val]
    apply BitVec.eq_of_toNat_eq
    have hr : (row c r).val < 2 ^ 32 := row_lt c r
    have hs : 2 ^ s < 2 ^ 32 := pow_lt (by omega)
    rw [BitVec.toNat_xor, BitVec.toNat_ofNat, BitVec.toNat_ofNat, BitVec.toNat_ofNat, Nat.mod_eq_of_lt hr, Nat.mod_eq_of_lt hs,
      Nat.mod_eq_of_lt (Nat.xor_lt_two_pow hr hs)]
  unfold Sort.double
  beta_reduce
  rw [pick_at (rowIds_at c r q) (row_lt c r) (pow_lt (by omega)) (pow_lt hu),
    pick_at (rowIds_at c r q) (row_lt c r) (pow_lt (by omega)) (pow_lt hu),
    pick_at hx (row_lt (t1 c) r) (pow_lt (by omega)) (pow_lt hu), hY, hY, hY, hY]
  unfold step
  rw [partner_row h8 (by omega) (h1 c), partner_row (by omega) (by omega) (h2 c),
    partner_row (by omega) (by omega) ((h3 c).trans (by rw [h1 c]))]
  rfl

/-! ## The kernel's stages -/

theorem st0_is {u : ℕ} (hu : u < 32) : IsStage 0 u fun v3 x => st0 v3 (BitVec.ofNat 32 (2 ^ u)) x :=
  rollStage_isStage (by decide) hu (by decide)
theorem st1_is {u : ℕ} (hu : u < 32) : IsStage 1 u fun v3 x => st1 v3 (BitVec.ofNat 32 (2 ^ u)) x :=
  rollStage_isStage (by decide) hu (by decide)
theorem st2_is {u : ℕ} (hu : u < 32) : IsStage 2 u fun v3 x => st2 v3 (BitVec.ofNat 32 (2 ^ u)) x :=
  rollStage_isStage (by decide) hu (by decide)
theorem st3_is {u : ℕ} (hu : u < 32) : IsStage 3 u fun v3 x => st3 v3 (BitVec.ofNat 32 (2 ^ u)) x :=
  rollStage_isStage (by decide) hu (by decide)
theorem st4_is {u : ℕ} (h : 4 < u) (hu : u < 32) : IsStage 4 u fun v3 x => st4 v3 (BitVec.ofNat 32 (2 ^ u)) x :=
  tileStage_isStage tf16 (by decide) h hu (by decide) (by decide) (by decide)
theorem st5_is {u : ℕ} (h : 5 < u) (hu : u < 32) : IsStage 5 u fun v3 x => st5 v3 (BitVec.ofNat 32 (2 ^ u)) x :=
  tileStage_isStage tf32 (by decide) h hu (by decide) (by decide) (by decide)
theorem st6_is {u : ℕ} (h : 6 < u) (hu : u < 32) : IsStage 6 u fun v3 x => st6 v3 (BitVec.ofNat 32 (2 ^ u)) x :=
  tileStage_isStage tf64 (by decide) h hu (by decide) (by decide) (by decide)
theorem st7_is {u : ℕ} (h : 7 < u) (hu : u < 32) : IsStage 7 u fun v3 x => st7 v3 (BitVec.ofNat 32 (2 ^ u)) x :=
  tileStage_isStage tf128 (by decide) h hu (by decide) (by decide) (by decide)

/-- The stages of level `u - 1` at distances below `2 ^ n`, greatest first. -/
def steps (n u : ℕ) (v : Fin (2 ^ 12) → EReal) : Fin (2 ^ 12) → EReal :=
  (List.range n).reverse.foldl (fun v s => step s u v) v

theorem Holds.allStages {u : ℕ} (h : 7 < u) (hu : u < 32) (hY : Holds Y v) :
    Holds (fun c => allStages (rowWord c) (BitVec.ofNat 32 (2 ^ u)) (Y c)) fun q => steps 8 u (v q) :=
  fun c r q => (((((((((hY.stage (st7_is h hu) (by decide)).stage (st6_is (by omega) hu) (by decide)).stage (st5_is (by omega) hu) (by decide)).stage
    (st4_is (by omega) hu) (by decide)).stage (st3_is hu) (by decide)).stage (st2_is hu) (by decide)).stage (st1_is hu) (by decide)).stage
    (st0_is hu) (by decide))) c r q

theorem Holds.level1 (hY : Holds Y v) : Holds (fun c => level1 (rowWord c) (Y c)) fun q => steps 1 1 (v q) :=
  fun c r q => (hY.stage (st0_is (u := 1) (by decide)) (by decide)) c r q
theorem Holds.level2 (hY : Holds Y v) : Holds (fun c => level2 (rowWord c) (Y c)) fun q => steps 2 2 (v q) :=
  fun c r q => ((hY.stage (st1_is (u := 2) (by decide)) (by decide)).stage (st0_is (u := 2) (by decide)) (by decide)) c r q
theorem Holds.level3 (hY : Holds Y v) : Holds (fun c => level3 (rowWord c) (Y c)) fun q => steps 3 3 (v q) :=
  fun c r q => (((hY.stage (st2_is (u := 3) (by decide)) (by decide)).stage (st1_is (u := 3) (by decide)) (by decide)).stage
    (st0_is (u := 3) (by decide)) (by decide)) c r q
theorem Holds.level4 (hY : Holds Y v) : Holds (fun c => level4 (rowWord c) (Y c)) fun q => steps 4 4 (v q) :=
  fun c r q => ((((hY.stage (st3_is (u := 4) (by decide)) (by decide)).stage (st2_is (u := 4) (by decide)) (by decide)).stage
    (st1_is (u := 4) (by decide)) (by decide)).stage (st0_is (u := 4) (by decide)) (by decide)) c r q
theorem Holds.level5 (hY : Holds Y v) : Holds (fun c => level5 (rowWord c) (Y c)) fun q => steps 5 5 (v q) :=
  fun c r q => (((((hY.stage (st4_is (u := 5) (by decide) (by decide)) (by decide)).stage (st3_is (u := 5) (by decide)) (by decide)).stage
    (st2_is (u := 5) (by decide)) (by decide)).stage (st1_is (u := 5) (by decide)) (by decide)).stage
    (st0_is (u := 5) (by decide)) (by decide)) c r q
theorem Holds.level6 (hY : Holds Y v) : Holds (fun c => level6 (rowWord c) (Y c)) fun q => steps 6 6 (v q) :=
  fun c r q => ((((((hY.stage (st5_is (u := 6) (by decide) (by decide)) (by decide)).stage (st4_is (u := 6) (by decide) (by decide)) (by decide)).stage
    (st3_is (u := 6) (by decide)) (by decide)).stage (st2_is (u := 6) (by decide)) (by decide)).stage
    (st1_is (u := 6) (by decide)) (by decide)).stage (st0_is (u := 6) (by decide)) (by decide)) c r q
theorem Holds.level7 (hY : Holds Y v) : Holds (fun c => level7 (rowWord c) (Y c)) fun q => steps 7 7 (v q) :=
  fun c r q => (((((((hY.stage (st6_is (u := 7) (by decide) (by decide)) (by decide)).stage (st5_is (u := 7) (by decide) (by decide)) (by decide)).stage
    (st4_is (u := 7) (by decide) (by decide)) (by decide)).stage (st3_is (u := 7) (by decide)) (by decide)).stage
    (st2_is (u := 7) (by decide)) (by decide)).stage (st1_is (u := 7) (by decide)) (by decide)).stage
    (st0_is (u := 7) (by decide)) (by decide)) c r q

/-! ## The whole kernel -/

/-- The first `n` levels of the sort of a column. -/
def levels (n : ℕ) (v : Fin (2 ^ 12) → EReal) : Fin (2 ^ 12) → EReal :=
  (List.range n).foldl (fun v l => steps (l + 1) (l + 1) v) v

variable {X : Dev nD → FVec Ideal S256x128 .bf16}

theorem holds_blk0 (hX : Holds X v) : Holds (blk0 X) fun q => levels 8 (v q) := by
  have e : blk0 X = fun c => seg0 c (X c) := rfl
  simp only [e, seg0_eq]
  exact ((((((((hX.same).level1).level2).level3).level4).level5).level6).level7.allStages (u := 8) (by decide) (by decide)).same

theorem holds_mid1 (hX : Holds X v) : Holds (mid1 X) fun q => step 8 9 (levels 8 (v q)) := by
  have e : mid1 X = fun c => merge1 c (blk0 X c) (up (blk0 X (tgt 0 c))) := rfl
  simp only [e, merge1_eq, down_up]
  exact ((holds_blk0 hX).single (s := 8) (u := 9) (t := tgt 0) (by decide) (by decide) (by decide) (by decide)).same

theorem holds_blk1 (hX : Holds X v) : Holds (blk1 X) fun q => levels 9 (v q) := by
  have e : blk1 X = fun c => local1 c (mid1 X c) := rfl
  simp only [e, local1_eq]
  exact ((holds_mid1 hX).allStages (u := 9) (by decide) (by decide)).same

theorem holds_mid2 (hX : Holds X v) : Holds (mid2 X) fun q => step 8 10 (step 9 10 (levels 9 (v q))) := by
  have e : mid2 X = fun c => merge2 c (blk1 X c) (up (blk1 X (tgt 1 c))) (up (blk1 X (tgt 2 c))) (up (blk1 X (tgt 3 c))) := rfl
  simp only [e, merge2_eq, down_up]
  exact ((holds_blk1 hX).double (s := 8) (u := 10) (t1 := tgt 1) (t2 := tgt 2) (t3 := tgt 3) (by decide) (by decide) (by decide)
    (by decide) (by decide) (by decide)).same

theorem holds_blk2 (hX : Holds X v) : Holds (blk2 X) fun q => levels 10 (v q) := by
  have e : blk2 X = fun c => local2 c (mid2 X c) := rfl
  simp only [e, local2_eq]
  exact ((holds_mid2 hX).allStages (u := 10) (by decide) (by decide)).same

theorem holds_blk3 (hX : Holds X v) : Holds (blk3 X) fun q => step 9 11 (step 10 11 (levels 10 (v q))) := by
  have e : blk3 X = fun c => merge3 c (blk2 X c) (up (blk2 X (tgt 4 c))) (up (blk2 X (tgt 5 c))) (up (blk2 X (tgt 6 c))) := rfl
  simp only [e, merge3_eq, down_up]
  exact ((holds_blk2 hX).double (s := 9) (u := 11) (t1 := tgt 4) (t2 := tgt 5) (t3 := tgt 6) (by decide) (by decide) (by decide)
    (by decide) (by decide) (by decide)).same

theorem holds_mid4 (hX : Holds X v) : Holds (mid4 X) fun q => step 8 11 (step 9 11 (step 10 11 (levels 10 (v q)))) := by
  have e : mid4 X = fun c => merge4 c (blk3 X c) (up (blk3 X (tgt 7 c))) := rfl
  simp only [e, merge4_eq, down_up]
  exact ((holds_blk3 hX).single (s := 8) (u := 11) (t := tgt 7) (by decide) (by decide) (by decide) (by decide)).same

theorem holds_blk4 (hX : Holds X v) : Holds (blk4 X) fun q => levels 11 (v q) := by
  have e : blk4 X = fun c => local4 c (mid4 X c) := rfl
  simp only [e, local4_eq]
  exact ((holds_mid4 hX).allStages (u := 11) (by decide) (by decide)).same

theorem holds_blk5 (hX : Holds X v) : Holds (blk5 X) fun q => step 10 12 (step 11 12 (levels 11 (v q))) := by
  have e : blk5 X = fun c => merge5 c (blk4 X c) (up (blk4 X (tgt 8 c))) (up (blk4 X (tgt 9 c))) (up (blk4 X (tgt 10 c))) := rfl
  simp only [e, merge5_eq, down_up]
  exact ((holds_blk4 hX).double (s := 10) (u := 12) (t1 := tgt 8) (t2 := tgt 9) (t3 := tgt 10) (by decide) (by decide) (by decide)
    (by decide) (by decide) (by decide)).same

theorem holds_mid6 (hX : Holds X v) :
    Holds (mid6 X) fun q => step 8 12 (step 9 12 (step 10 12 (step 11 12 (levels 11 (v q))))) := by
  have e : mid6 X = fun c => merge6 c (blk5 X c) (up (blk5 X (tgt 11 c))) (up (blk5 X (tgt 12 c))) (up (blk5 X (tgt 13 c))) := rfl
  simp only [e, merge6_eq, down_up]
  exact ((holds_blk5 hX).double (s := 8) (u := 12) (t1 := tgt 11) (t2 := tgt 12) (t3 := tgt 13) (by decide) (by decide) (by decide)
    (by decide) (by decide) (by decide)).same

theorem holds_blk6 (hX : Holds X v) : Holds (blk6 X) fun q => levels 12 (v q) := by
  have e : blk6 X = fun c => local6 c (mid6 X c) := rfl
  simp only [e, local6_eq]
  exact ((holds_mid6 hX).allStages (u := 12) (by decide) (by decide)).same

/-! ## The network sorts -/

theorem apply_flatMap {A : Type} (f : A → Network (2 ^ 12)) (L : List A) (w : Fin (2 ^ 12) → EReal) :
    Network.apply (L.flatMap f) w = L.foldl (fun w a => Network.apply (f a) w) w := by
  induction L generalizing w with
  | nil => rfl
  | cons a L ih => rw [List.flatMap_cons, Network.apply_append, ih]; rfl

theorem levels_eq (w : Fin (2 ^ 12) → EReal) : levels 12 w = Network.apply (sortNet 12 false) w := by
  unfold sortNet
  rw [apply_flatMap]
  unfold levels
  refine List.foldl_ext _ _ _ fun w l hl => ?_
  rw [apply_flatMap]
  unfold steps
  refine List.foldl_ext _ _ _ fun w s hs => ?_
  rw [List.mem_range] at hl
  rw [List.mem_reverse, List.mem_range] at hs
  exact (step_eq (by omega) hs w).symm

/-- A sorting permutation of a column gives what the kernel's stages give. -/
theorem levels_eq_of_monotone (w : Fin (2 ^ 12) → EReal) (τ : Equiv.Perm (Fin (2 ^ 12))) (hτ : Monotone (w ∘ τ)) :
    levels 12 w = w ∘ τ := by
  have hm := sortNet_apply_monotone 12 w
  rw [levels_eq]
  obtain ⟨σ, hσ⟩ := Network.exists_perm (sortNet 12 false) w
  rw [hσ] at hm ⊢
  exact List.ofFn_injective (((σ.ofFn_comp_perm w).trans (τ.ofFn_comp_perm w).symm).eq_of_pairwise'
    hm.sortedLE_ofFn.pairwise hτ.sortedLE_ofFn.pairwise)

end Cert.Sort

end
-- ==== Proof.Value.lean ====
/-
# The kernel's blocks are the blocks of the sorted array

The reference's sort of one column is a permutation that leaves no entry before a lesser one, so it gives what the
network gives, and the kernel's blocks hold the network's columns.
-/
module

public import proofs.«01_k».proof.Proof.Network
public import proofs.«01_k».proof.Proof.Gen.ReferenceIdeal
public import Idealize.ShloMosaic.Lib.SortFacts
public import Idealize.ShloMosaic.Lib.Layout

@[expose] public section

noncomputable section

namespace Cert.Sort

open Cert.KernelIdeal Cert.KernelIdeal.Gen
open Idealize.ShloMosaic hiding ix2 ix3 ix4 eq_ix2
open Idealize.SL.Sem
open Idealize.ShloMosaic.ValueIdx
open Idealize.ShloMosaic.SortNet

/-- The whole array's shape. -/
abbrev Whole : Shape := ⟨2, ![4096, 128]⟩

/-- The reference's order of two entries. -/
abbrev before : EReal → EReal → BitVec 1 := Cert.ReferenceIdeal.comparator_f32_d0 (F := Ideal)

/-- One side of the comparison: over the extended reals the entry itself, zero or not. -/
theorem canonical (a z n : EReal) (hz : z = 0) :
    Scalar.select (Ideal.cmp .une a a) n (Scalar.select (Ideal.cmp .oeq a z) z a) = a := by
  subst hz
  unfold Scalar.select Ideal.cmp
  by_cases h : a = 0 <;> simp [h]

/-- At the extended reals the order is the strict one. -/
theorem before_eq (a b : EReal) : before a b = BitVec.ofBool (decide (a < b)) := by
  have hz : Ideal.ofBits .f32 0x00000000#32 = 0 := by simp [Ideal.ofBits, Ideal.ieee]
  show Ideal.cmp .olt
    (Scalar.select (Ideal.cmp .une a a) (Ideal.ofBits .f32 0x7FC00000#32)
      (Scalar.select (Ideal.cmp .oeq a (Ideal.ofBits .f32 0x00000000#32)) (Ideal.ofBits .f32 0x00000000#32) a))
    (Scalar.select (Ideal.cmp .une b b) (Ideal.ofBits .f32 0x7FC00000#32)
      (Scalar.select (Ideal.cmp .oeq b (Ideal.ofBits .f32 0x00000000#32)) (Ideal.ofBits .f32 0x00000000#32) b)) = _
  rw [canonical _ _ _ hz, canonical _ _ _ hz]
  rfl

variable {n : ℕ}

/-- The order of the places of a column. -/
def order (w : Fin n → EReal) (i j : Fin n) : Bool := before (w i) (w j) == 1#1

theorem order_false (w : Fin n → EReal) (i j : Fin n) : order w i j = false ↔ w j ≤ w i := by
  unfold order
  rw [before_eq]
  by_cases h : w i < w j
  · simp [h]
  · simp [h, not_lt.mp h]

theorem order_true (w : Fin n → EReal) (i j : Fin n) : order w i j = true ↔ w i < w j := by
  rw [← not_iff_not, Bool.not_eq_true, order_false, not_lt]

/-- The places of a column in sorted order. -/
def sorting (w : Fin n → EReal) : Equiv.Perm (Fin n) :=
  Equiv.ofBijective (sortedFrom (order w)) ⟨sortedFrom_injective _, sortedFrom_surjective _⟩

theorem sorting_monotone (w : Fin n → EReal) : Monotone (w ∘ sorting w) := by
  intro i j hij
  rcases eq_or_lt_of_le hij with rfl | hij
  · exact le_refl _
  · have h := sortedFrom_noInversion (order w) (order w) (fun a b h => (order_false w b a).mpr ((order_true w a b).mp h).le)
      (fun _ _ h => h)
      (fun a b c h1 h2 => (order_false w a c).mpr (((order_false w b c).mp h2).trans ((order_false w a b).mp h1))) i j hij
    exact (order_false w (sortedFrom (order w) j) (sortedFrom (order w) i)).mp h

/-- Moving along a column. -/
theorem along_ix2 (i k : Fin n) (q : Fin 128) :
    Shape.Idx.along (s := ⟨2, ![n, 128]⟩) (ix2 i q) (0 : Fin 2) k = ix2 k q := by
  funext b
  match b with
  | ⟨0, _⟩ => exact Function.update_self (0 : Fin 2) k (ix2 i q : (⟨2, ![n, 128]⟩ : Shape).Idx)
  | ⟨1, _⟩ => exact Function.update_of_ne (show (⟨1, by decide⟩ : Fin 2) ≠ 0 by decide) k (ix2 i q : (⟨2, ![n, 128]⟩ : Shape).Idx)

/-- The reference's sort, a column at a time. -/
theorem sort_column (A : (⟨2, ![n, 128]⟩ : Shape).Idx → EReal) (i : Fin n) (q : Fin 128) :
    Host.sort ⟨2, ![n, 128]⟩ 0 before A (ix2 i q) = A (ix2 (sorting (fun k => A (ix2 k q)) i) q) := by
  have e : (fun k k' : Fin n => before (A (Shape.Idx.along (s := ⟨2, ![n, 128]⟩) (ix2 i q) (0 : Fin 2) k))
      (A (Shape.Idx.along (s := ⟨2, ![n, 128]⟩) (ix2 i q) (0 : Fin 2) k')) == 1#1) = order fun k => A (ix2 k q) := by
    funext k k'
    rw [along_ix2, along_ix2]
    rfl
  show A (Shape.Idx.along (s := ⟨2, ![n, 128]⟩) (ix2 i q) (0 : Fin 2) (sortedFrom (n := n) (fun k k' : Fin n =>
    before (A (Shape.Idx.along (s := ⟨2, ![n, 128]⟩) (ix2 i q) (0 : Fin 2) k))
      (A (Shape.Idx.along (s := ⟨2, ![n, 128]⟩) (ix2 i q) (0 : Fin 2) k')) == 1#1) i)) = _
  rw [e]
  exact congrArg A (along_ix2 i _ q)

/-- The network gives what the reference's sort gives. -/
theorem sort_levels (A : Whole.Idx → EReal) (i : Fin (2 ^ 12)) (q : Fin 128) :
    Host.sort Whole 0 before A (ix2 (n0 := 2 ^ 12) i q) = levels 12 (fun k => A (ix2 (n0 := 2 ^ 12) k q)) i := by
  rw [levels_eq_of_monotone _ _ (sorting_monotone fun k => A (ix2 (n0 := 2 ^ 12) k q))]
  exact sort_column (n := 2 ^ 12) A i q

/-- Where a block's entry lies in the whole array. -/
theorem block_ix2 (h : Layout.Tiles ⟨2, ![256, 128]⟩ Whole 0 16) (c : Dev nD) (r : Fin 256) (q : Fin 128) :
    h.idx c (ix2 r q) = ix2 (row c r) q := by
  funext b
  match b with
  | ⟨0, _⟩ => exact Fin.ext rfl
  | ⟨1, _⟩ => exact Fin.ext rfl

/-- From the blocks of an array, the kernel leaves the blocks of the sorted array. -/
theorem outBlk_eq {X : Dev nD → FVec Ideal S256x128 .bf16} (A : Whole.Idx → EReal)
    (hX : ∀ c, X c = Layout.block ⟨2, ![256, 128]⟩ Whole 0 16 c A) (c : Dev nD) :
    outBlk X c = Layout.block ⟨2, ![256, 128]⟩ Whole 0 16 c (Host.sort Whole 0 before A) := by
  have hH : Holds X fun q k => A (ix2 k q) := fun c r q => by
    rw [hX c, Layout.block_apply, block_ix2]
    rfl
  funext i
  obtain ⟨r, q, rfl⟩ : ∃ (r : Fin 256) (q : Fin 128), i = ix2 r q := ⟨i 0, i 1, eq_ix2 i⟩
  rw [Layout.block_apply, block_ix2]
  exact (holds_blk6 hH c r q).trans (sort_levels A (row c r) q).symm

end Cert.Sort

end
-- ==== Proof.lean ====
/-
# The sort: the claims

The kernel's run is written once, at any float values, over the idealized program's text (`Proof/Launch.lean`). The program
itself has the same text, so its frame is that run at the machine's floats and the idealized frame the run at the ideal ones.
At the ideal ones the blocks it leaves are the blocks of the sorted array (`Proof/Value.lean`).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.SL.Sem

/-- At any float values: the program runs, keeps its argument, and ends with every counter at zero. -/
theorem frame_at {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD, r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0))
        ∧ r.2.sem = fun _ => 0) :=
  (θ_run Cert.KernelIdeal.defs _ _).mono (fun _ h => ⟨fun c => (h.1 c (0 : Fin 2)).trans (Cert.Sort.finalA_x m ρ c), h.2⟩)
    (Cert.Sort.run_main (F := F) m ρ)

/-- The two programs' bodies have the same text, -/
theorem body_eq : Cert.Kernel.cc0_body (F := Bits) = Cert.KernelIdeal.cc0_body (F := Bits) := rfl

/-- so the same body table, -/
theorem defs₀_eq : Cert.Kernel.defs₀ (F := Bits) = Cert.KernelIdeal.defs₀ (F := Bits) := by
  unfold Cert.Kernel.defs₀ Cert.KernelIdeal.defs₀
  refine congrArg Defs.onTc (funext fun ℓ => funext fun a => ?_)
  match ℓ, a with
  | ⟨0, _⟩, (_, _) => exact congrFun (congrFun (congrFun (congrFun (congrFun (congrFun (congrFun (congrFun (congrFun (congrFun body_eq _) _) _) _) _) _) _) _) _) _

/-- with the pipelines'. -/
theorem defs_eq : Cert.Kernel.defs (F := Bits) = Cert.KernelIdeal.defs (F := Bits) := congrArg (Pipeline.defs Cert.KernelIdeal.pcfgs) defs₀_eq

/-- The program at the machine's floats. -/
theorem frame_kernel : Cert.quiescent_Kernel := fun m ρ _ => by
  have h := frame_at (F := Bits) m ρ
  rw [← defs_eq] at h
  exact h

/-- The idealized program at the ideal floats. -/
theorem frame_kernelIdeal : Cert.quiescent_KernelIdeal := fun m ρ _ => frame_at (F := Ideal) m ρ

/-- The reference runs, keeps its argument, and declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From the blocks of one array, the program leaves the blocks of what the reference leaves. -/
theorem algebraic : Cert.algebraic_KernelIdeal_ReferenceIdeal := fun m ρ m' ρ' _ hagree =>
  ⟨_, (θ_run Cert.KernelIdeal.defs _ _).mono (fun _ h c =>
      ⟨(h.1 c (1 : Fin 2)).trans ((Cert.Sort.finalA_o m ρ c).trans
          (Cert.Sort.outBlk_eq _ (fun c => (Cert.Sort.xstg_eq m ρ c).trans (hagree c)) c)),
        (h.1 c (0 : Fin 2)).trans (Cert.Sort.finalA_x m ρ c)⟩) (Cert.Sort.run_main (F := Ideal) m ρ),
    (θ_run Cert.ReferenceIdeal.defs _ _).mono (fun _ h => h 0) (Cert.ReferenceIdeal.Value.run (F := Ideal) m' ρ')⟩

/-- Every claim. -/
theorem claim : Cert.Claim := ⟨Cert.Kernel.Gen.facts, Cert.KernelIdeal.Gen.facts, Cert.ReferenceIdeal.Gen.facts,
  frame_kernel, frame_kernelIdeal, frame_reference, trivial, algebraic⟩

end Cert.Proof

end
